-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvReferenceIdeal (m : (ℓ : Loc Cert.KvReferenceIdeal.nD Cert.KvReferenceIdeal.τ Cert.KvReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1)
      ∧ r.2.mem ((c.tc : Thread Cert.Kv.nD Cert.Kv.τ).loc Cert.Kv.main_arg2) = m ((c.tc : Thread Cert.Kv.nD Cert.Kv.τ).loc Cert.Kv.main_arg2)
      ∧ r.2.mem ((c.tc : Thread Cert.Kv.nD Cert.Kv.τ).loc Cert.Kv.main_arg3) = m ((c.tc : Thread Cert.Kv.nD Cert.Kv.τ).loc Cert.Kv.main_arg3)
      ∧ r.2.mem ((c.tc : Thread Cert.Kv.nD Cert.Kv.τ).loc Cert.Kv.main_arg4) = m ((c.tc : Thread Cert.Kv.nD Cert.Kv.τ).loc Cert.Kv.main_arg4))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
      ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
      ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
      ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ r.2.sem = fun _ => 0)

def quiescent_KvReferenceIdeal [hKvReferenceIdeal : Cert.KvReferenceIdeal.Facts] : Prop :=
  ∀ (m : (ℓ : Loc Cert.KvReferenceIdeal.nD Cert.KvReferenceIdeal.τ Cert.KvReferenceIdeal.sig) → Buf (Elt Ideal) ℓ) (g : Dev Cert.KvReferenceIdeal.nD → PrngReg), Pre_KvReferenceIdeal m →
    θ_run (Cert.KvReferenceIdeal.defs (F := Ideal)) (onTc (τ := Cert.KvReferenceIdeal.τ) (Cert.KvReferenceIdeal.main (F := Ideal))) ⟨m, fun _ => 0, g⟩ (fun r => (∀ c : Dev Cert.KvReferenceIdeal.nD,
      r.2.mem ((c.tc : Thread Cert.KvReferenceIdeal.nD Cert.KvReferenceIdeal.τ).loc Cert.KvReferenceIdeal.main_arg0) = m ((c.tc : Thread Cert.KvReferenceIdeal.nD Cert.KvReferenceIdeal.τ).loc Cert.KvReferenceIdeal.main_arg0)
      ∧ r.2.mem ((c.tc : Thread Cert.KvReferenceIdeal.nD Cert.KvReferenceIdeal.τ).loc Cert.KvReferenceIdeal.main_arg1) = m ((c.tc : Thread Cert.KvReferenceIdeal.nD Cert.KvReferenceIdeal.τ).loc Cert.KvReferenceIdeal.main_arg1)
      ∧ r.2.mem ((c.tc : Thread Cert.KvReferenceIdeal.nD Cert.KvReferenceIdeal.τ).loc Cert.KvReferenceIdeal.main_arg2) = m ((c.tc : Thread Cert.KvReferenceIdeal.nD Cert.KvReferenceIdeal.τ).loc Cert.KvReferenceIdeal.main_arg2)
      ∧ r.2.mem ((c.tc : Thread Cert.KvReferenceIdeal.nD Cert.KvReferenceIdeal.τ).loc Cert.KvReferenceIdeal.main_arg3) = m ((c.tc : Thread Cert.KvReferenceIdeal.nD Cert.KvReferenceIdeal.τ).loc Cert.KvReferenceIdeal.main_arg3)
      ∧ r.2.mem ((c.tc : Thread Cert.KvReferenceIdeal.nD Cert.KvReferenceIdeal.τ).loc Cert.KvReferenceIdeal.main_arg4) = m ((c.tc : Thread Cert.KvReferenceIdeal.nD Cert.KvReferenceIdeal.τ).loc Cert.KvReferenceIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v6) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v22) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3))

def preserves_Kv_KvIdeal : Prop :=
  True

def algebraic_KvIdeal_KvReferenceIdeal [hKvIdeal : Cert.KvIdeal.Facts] [hKvReferenceIdeal : Cert.KvReferenceIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvReferenceIdeal.nD Cert.KvReferenceIdeal.τ Cert.KvReferenceIdeal.sig) → Buf (Elt Ideal) ℓ) (g' : Dev Cert.KvReferenceIdeal.nD → PrngReg), Pre_KvIdeal m →
    (∀ c : Dev Cert.KvIdeal.nD,
      m' ((c.tc : Thread Cert.KvReferenceIdeal.nD Cert.KvReferenceIdeal.τ).loc Cert.KvReferenceIdeal.main_arg0) = m ((c.tc : Thread Cert.KvIdeal.nD Cert.KvIdeal.τ).loc Cert.KvIdeal.main_arg0)
      ∧ m' ((c.tc : Thread Cert.KvReferenceIdeal.nD Cert.KvReferenceIdeal.τ).loc Cert.KvReferenceIdeal.main_arg1) = m ((c.tc : Thread Cert.KvIdeal.nD Cert.KvIdeal.τ).loc Cert.KvIdeal.main_arg1)
      ∧ m' ((c.tc : Thread Cert.KvReferenceIdeal.nD Cert.KvReferenceIdeal.τ).loc Cert.KvReferenceIdeal.main_arg2) = m ((c.tc : Thread Cert.KvIdeal.nD Cert.KvIdeal.τ).loc Cert.KvIdeal.main_arg2)
      ∧ m' ((c.tc : Thread Cert.KvReferenceIdeal.nD Cert.KvReferenceIdeal.τ).loc Cert.KvReferenceIdeal.main_arg3) = m ((c.tc : Thread Cert.KvIdeal.nD Cert.KvIdeal.τ).loc Cert.KvIdeal.main_arg3)
      ∧ m' ((c.tc : Thread Cert.KvReferenceIdeal.nD Cert.KvReferenceIdeal.τ).loc Cert.KvReferenceIdeal.main_arg4) = m ((c.tc : Thread Cert.KvIdeal.nD Cert.KvIdeal.τ).loc Cert.KvIdeal.main_arg4)) →
    ∃ (v0 : (c : Dev Cert.KvIdeal.nD) → Buf (Elt Ideal) ((c.tc : Thread Cert.KvIdeal.nD Cert.KvIdeal.τ).loc Cert.KvIdeal.main_v33_0)) (v1 : (c : Dev Cert.KvIdeal.nD) → Buf (Elt Ideal) ((c.tc : Thread Cert.KvIdeal.nD Cert.KvIdeal.τ).loc Cert.KvIdeal.main_v33_1)) (v2 : (c : Dev Cert.KvIdeal.nD) → Buf (Elt Ideal) ((c.tc : Thread Cert.KvIdeal.nD Cert.KvIdeal.τ).loc Cert.KvIdeal.main_v33_2)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v33_0) = v0 c
          ∧ r.2.mem ((c.tc : Thread Cert.KvIdeal.nD Cert.KvIdeal.τ).loc Cert.KvIdeal.main_v33_1) = v1 c
          ∧ r.2.mem ((c.tc : Thread Cert.KvIdeal.nD Cert.KvIdeal.τ).loc Cert.KvIdeal.main_v33_2) = v2 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1)
          ∧ r.2.mem ((c.tc : Thread Cert.KvIdeal.nD Cert.KvIdeal.τ).loc Cert.KvIdeal.main_arg2) = m ((c.tc : Thread Cert.KvIdeal.nD Cert.KvIdeal.τ).loc Cert.KvIdeal.main_arg2)
          ∧ r.2.mem ((c.tc : Thread Cert.KvIdeal.nD Cert.KvIdeal.τ).loc Cert.KvIdeal.main_arg3) = m ((c.tc : Thread Cert.KvIdeal.nD Cert.KvIdeal.τ).loc Cert.KvIdeal.main_arg3)
          ∧ r.2.mem ((c.tc : Thread Cert.KvIdeal.nD Cert.KvIdeal.τ).loc Cert.KvIdeal.main_arg4) = m ((c.tc : Thread Cert.KvIdeal.nD Cert.KvIdeal.τ).loc Cert.KvIdeal.main_arg4))
      ∧ θ_run (Cert.KvReferenceIdeal.defs (F := Ideal)) (onTc (τ := Cert.KvReferenceIdeal.τ) (Cert.KvReferenceIdeal.main (F := Ideal))) ⟨m', fun _ => 0, g'⟩ (fun r => ∀ c : Dev Cert.KvReferenceIdeal.nD,
          r.2.mem ((c.tc : Thread Cert.KvReferenceIdeal.nD Cert.KvReferenceIdeal.τ).loc Cert.KvReferenceIdeal.main_v29) = v0 c
          ∧ r.2.mem ((c.tc : Thread Cert.KvReferenceIdeal.nD Cert.KvReferenceIdeal.τ).loc Cert.KvReferenceIdeal.main_v31) = v1 c
          ∧ r.2.mem ((c.tc : Thread Cert.KvReferenceIdeal.nD Cert.KvReferenceIdeal.τ).loc Cert.KvReferenceIdeal.main_v37) = v2 c
          ∧ r.2.mem ((c.tc : Thread Cert.KvReferenceIdeal.nD Cert.KvReferenceIdeal.τ).loc Cert.KvReferenceIdeal.main_arg0) = m' ((c.tc : Thread Cert.KvReferenceIdeal.nD Cert.KvReferenceIdeal.τ).loc Cert.KvReferenceIdeal.main_arg0)
          ∧ r.2.mem ((c.tc : Thread Cert.KvReferenceIdeal.nD Cert.KvReferenceIdeal.τ).loc Cert.KvReferenceIdeal.main_arg1) = m' ((c.tc : Thread Cert.KvReferenceIdeal.nD Cert.KvReferenceIdeal.τ).loc Cert.KvReferenceIdeal.main_arg1)
          ∧ r.2.mem ((c.tc : Thread Cert.KvReferenceIdeal.nD Cert.KvReferenceIdeal.τ).loc Cert.KvReferenceIdeal.main_arg2) = m' ((c.tc : Thread Cert.KvReferenceIdeal.nD Cert.KvReferenceIdeal.τ).loc Cert.KvReferenceIdeal.main_arg2)
          ∧ r.2.mem ((c.tc : Thread Cert.KvReferenceIdeal.nD Cert.KvReferenceIdeal.τ).loc Cert.KvReferenceIdeal.main_arg3) = m' ((c.tc : Thread Cert.KvReferenceIdeal.nD Cert.KvReferenceIdeal.τ).loc Cert.KvReferenceIdeal.main_arg3)
          ∧ r.2.mem ((c.tc : Thread Cert.KvReferenceIdeal.nD Cert.KvReferenceIdeal.τ).loc Cert.KvReferenceIdeal.main_arg4) = m' ((c.tc : Thread Cert.KvReferenceIdeal.nD Cert.KvReferenceIdeal.τ).loc Cert.KvReferenceIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnReferenceIdeal : Cert.FfnReferenceIdeal.Facts) (hKv : Cert.Kv.Facts) (hKvIdeal : Cert.KvIdeal.Facts) (hKvReferenceIdeal : Cert.KvReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Kv (hKv := hKv)
    ∧ quiescent_KvIdeal (hKvIdeal := hKvIdeal)
    ∧ quiescent_KvReferenceIdeal (hKvReferenceIdeal := hKvReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_Ffn_FfnIdeal
    ∧ algebraic_FfnIdeal_FfnReferenceIdeal (hFfnIdeal := hFfnIdeal) (hFfnReferenceIdeal := hFfnReferenceIdeal)
    ∧ preserves_Kv_KvIdeal
    ∧ algebraic_KvIdeal_KvReferenceIdeal (hKvIdeal := hKvIdeal) (hKvReferenceIdeal := hKvReferenceIdeal)
-- ==== Pre_finite_scores.lean ====
abbrev S8x4096x16x64 : Shape := ⟨4, ![8, 4096, 16, 64]⟩
abbrev S8x4096x16 : Shape := ⟨3, ![8, 4096, 16]⟩
abbrev S8x4096x1024 : Shape := ⟨3, ![8, 4096, 1024]⟩
abbrev S_ : Shape := ⟨0, ![]⟩

class Facts : Prop where
  bcast_S_S8x4096x16x64 : S_.BroadcastsInDim S8x4096x16x64 (![] : Fin 0 → Fin S8x4096x16x64.rank)
  reducesTo_S8x4096x16x64_S_d0_1_2_3 : S8x4096x16x64.ReducesTo [0, 1, 2, 3] S_
  h_S_ : 0 < S_.numel
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn {F : FTy → Type} [FloatOps F] (main_arg0 : FVec F S8x4096x16x64 .f32) (main_arg1 : FVec F S8x4096x16x64 .f32) (main_arg2 : FVec F S8x4096x16x64 .f32) (main_arg3 : FVec F S8x4096x16 .f32) (main_arg4 : FVec F S8x4096x1024 .f32) : IVec S_ 1 :=
  let main_v0 : FVec F S8x4096x16x64 .f32 := Host.absf main_arg0
  let main_cst : FVec F S_ .f32 := constant S_ .f32 0x7F800000#32
  let main_v1 : FVec F S8x4096x16x64 .f32 := broadcastInDim S8x4096x16x64 ![] bcast_S_S8x4096x16x64 main_cst
  let main_v2 : IVec S8x4096x16x64 1 := cmpf .olt main_v0 main_v1
  let main_c : IVec S_ 1 := constantI S_ 1 1#1
  let main_v3 : IVec S_ 1 := (fun x v => Host.reduce IntOp.andi x v reducesTo_S8x4096x16x64_S_d0_1_2_3 h_S_) main_v2 main_c
  let main_v4 : FVec F S8x4096x16x64 .f32 := Host.absf main_arg1
  let main_cst_0 : FVec F S_ .f32 := constant S_ .f32 0x7F800000#32
  let main_v5 : FVec F S8x4096x16x64 .f32 := broadcastInDim S8x4096x16x64 ![] bcast_S_S8x4096x16x64 main_cst_0
  let main_v6 : IVec S8x4096x16x64 1 := cmpf .olt main_v4 main_v5
  let main_c_1 : IVec S_ 1 := constantI S_ 1 1#1
  let main_v7 : IVec S_ 1 := (fun x v => Host.reduce IntOp.andi x v reducesTo_S8x4096x16x64_S_d0_1_2_3 h_S_) main_v6 main_c_1
  let main_v8 : IVec S_ 1 := andi main_v3 main_v7
  let main_v9 : FVec F S8x4096x16 .f32 := Host.absf main_arg3
  let main_cst_2 : FVec F S_ .f32 := constant S_ .f32 0x7F800000#32
  let main_v10 : FVec F S8x4096x16 .f32 := broadcastInDim S8x4096x16 ![] bcast_S_S8x4096x16 main_cst_2
  let main_v11 : IVec S8x4096x16 1 := cmpf .olt main_v9 main_v10
  let main_c_3 : IVec S_ 1 := constantI S_ 1 1#1
  let main_v12 : IVec S_ 1 := (fun x v => Host.reduce IntOp.andi x v reducesTo_S8x4096x16_S_d0_1_2 h_S_) main_v11 main_c_3
  let main_v13 : IVec S_ 1 := andi main_v8 main_v12
  main_v13
-- ==== Kernel.lean ====
abbrev S8x4096x16x64 : Shape := ⟨4, ![8, 4096, 16, 64]⟩
abbrev S8x4096x16 : Shape := ⟨3, ![8, 4096, 16]⟩
abbrev S8x4096x1024 : Shape := ⟨3, ![8, 4096, 1024]⟩
abbrev S_ : Shape := ⟨0, ![]⟩
abbrev S8x4096x8x128 : Shape := ⟨4, ![8, 4096, 8, 128]⟩
abbrev S8x8x4096x128 : Shape := ⟨4, ![8, 8, 4096, 128]⟩
abbrev S64x512x1024 : Shape := ⟨3, ![64, 512, 1024]⟩
abbrev S64x1024x512 : Shape := ⟨3, ![64, 1024, 512]⟩
abbrev S8x4096x16x1 : Shape := ⟨4, ![8, 4096, 16, 1]⟩
abbrev S8x4096x16x3 : Shape := ⟨4, ![8, 4096, 16, 3]⟩
abbrev S8x4096x16x6 : Shape := ⟨4, ![8, 4096, 16, 6]⟩
abbrev S8x4096x8x12 : Shape := ⟨4, ![8, 4096, 8, 12]⟩
abbrev S1x1024x128 : Shape := ⟨3, ![1, 1024, 128]⟩
abbrev S1x1x1024x128 : Shape := ⟨4, ![1, 1, 1024, 128]⟩
abbrev S1x1x4096x128 : Shape := ⟨4, ![1, 1, 4096, 128]⟩
abbrev S8x128x512 : Shape := ⟨3, ![8, 128, 512]⟩
abbrev S2x1x1024 : Shape := ⟨3, ![2, 1, 1024]⟩
abbrev S2x144x1024 : Shape := ⟨3, ![2, 144, 1024]⟩
abbrev S1024x128 : Shape := ⟨2, ![1024, 128]⟩
abbrev S1024x256 : Shape := ⟨2, ![1024, 256]⟩
abbrev S1x1x512x128 : Shape := ⟨4, ![1, 1, 512, 128]⟩
abbrev S512x128 : Shape := ⟨2, ![512, 128]⟩
abbrev S512x256 : Shape := ⟨2, ![512, 256]⟩
abbrev S512x1024 : Shape := ⟨2, ![512, 1024]⟩
abbrev S1x128x512 : Shape := ⟨3, ![1, 128, 512]⟩
abbrev S128x512 : Shape := ⟨2, ![128, 512]⟩
abbrev S16x512 : Shape := ⟨2, ![16, 512]⟩
abbrev S144x512 : Shape := ⟨2, ![144, 512]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S144x1024 : Shape := ⟨2, ![144, 1024]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S1x128x1024 : Shape := ⟨3, ![1, 128, 1024]⟩
abbrev S128x1024 : Shape := ⟨2, ![128, 1024]⟩

abbrev nBuf : Space → Nat
  | .hbm => 64
  | .vmem => 16
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x64, .f32⟩
  | .hbm, ⟨2, _⟩ => ⟨S8x4096x16x64, .f32⟩
  | .hbm, ⟨3, _⟩ => ⟨S8x4096x16, .f32⟩
  | .hbm, ⟨4, _⟩ => ⟨S8x4096x1024, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S8x4096x1024, .f32⟩
  | .hbm, ⟨10, _⟩ => ⟨S_, .f32⟩
  | .hbm, ⟨11, _⟩ => ⟨S_, .f32⟩
  | .hbm, ⟨12, _⟩ => ⟨S8x4096x1024, .f32⟩
  | .hbm, ⟨13, _⟩ => ⟨S8x4096x1024, .f32⟩
  | .hbm, ⟨14, _⟩ => ⟨S8x4096x1024, .bf16⟩
  | .hbm, ⟨15, _⟩ => ⟨S8x4096x16x64, .bf16⟩
  | .hbm, ⟨16, _⟩ => ⟨S8x4096x8x128, .bf16⟩
  | .hbm, ⟨17, _⟩ => ⟨S8x8x4096x128, .bf16⟩
  | .hbm, ⟨18, _⟩ => ⟨S64x512x1024, .f32⟩
  | .hbm, ⟨19, _⟩ => ⟨S64x1024x512, .f32⟩
  | .hbm, ⟨20, _⟩ => ⟨S64x1024x512, .bf16⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096x1024, .f32⟩
  | .hbm, ⟨25, _⟩ => ⟨S8x4096x1024, .f32⟩
  | .hbm, ⟨26, _⟩ => ⟨S_, .f32⟩
  | .hbm, ⟨27, _⟩ => ⟨S8x4096x1024, .f32⟩
  | .hbm, ⟨28, _⟩ => ⟨S8x4096x1024, .f32⟩
  | .hbm, ⟨29, _⟩ => ⟨S8x4096x1024, .bf16⟩
  | .hbm, ⟨30, _⟩ => ⟨S8x4096x16, .f32⟩
  | .hbm, ⟨31, _⟩ => ⟨S8x4096x16, .f32⟩
  | .hbm, ⟨32, _⟩ => ⟨S8x4096x16, .bf16⟩
  | .hbm, ⟨33, _⟩ => ⟨S8x4096x16, .f32⟩
  | .hbm, ⟨34, _⟩ => ⟨S8x4096x16, .f32⟩
  | .hbm, ⟨35, _⟩ => ⟨S8x4096x16, .bf16⟩
  | .hbm, ⟨36, _⟩ => ⟨S8x4096x16, .f32⟩
  | .hbm, ⟨37, _⟩ => ⟨S8x4096x16, .f32⟩
  | .hbm, ⟨38, _⟩ => ⟨S8x4096x16, .bf16⟩
  | .hbm, ⟨39, _⟩ => ⟨S8x4096x16, .f32⟩
  | .hbm, ⟨40, _⟩ => ⟨S8x4096x16, .f32⟩
  | .hbm, ⟨41, _⟩ => ⟨S8x4096x16, .f32⟩
  | .hbm, ⟨42, _⟩ => ⟨S8x4096x16x1, .f32⟩
  | .hbm, ⟨43, _⟩ => ⟨S8x4096x16x1, .f32⟩
  | .hbm, ⟨44, _⟩ => ⟨S8x4096x16x1, .f32⟩
  | .hbm, ⟨45, _⟩ => ⟨S8x4096x16x3, .f32⟩
  | .hbm, ⟨46, _⟩ => ⟨S_, .f32⟩
  | .hbm, ⟨47, _⟩ => ⟨S8x4096x16x3, .f32⟩
  | .hbm, ⟨48, _⟩ => ⟨S8x4096x16x6, .f32⟩
  | .hbm, ⟨49, _⟩ => ⟨S8x4096x8x12, .f32⟩
  | .hbm, ⟨50, _⟩ => ⟨S_, .i32⟩
  | .hbm, ⟨51, _⟩ => ⟨S_, .f32⟩
  | .hbm, ⟨52, _⟩ => ⟨S8x4096x8x128, .f32⟩
  | .hbm, ⟨53, _⟩ => ⟨S8x8x4096x128, .f32⟩
  | .hbm, ⟨54, _⟩ => ⟨S8x8x4096x128, .bf16⟩
  | .hbm, ⟨55, _⟩ => ⟨S8x4096x16x3, .f32⟩
  | .hbm, ⟨56, _⟩ => ⟨S8x4096x16x6, .f32⟩
  | .hbm, ⟨57, _⟩ => ⟨S8x4096x8x12, .f32⟩
  | .hbm, ⟨58, _⟩ => ⟨S_, .i32⟩
  | .hbm, ⟨59, _⟩ => ⟨S_, .f32⟩
  | .hbm, ⟨60, _⟩ => ⟨S8x4096x8x128, .f32⟩
  | .hbm, ⟨61, _⟩ => ⟨S8x8x4096x128, .f32⟩
  | .hbm, ⟨62, _⟩ => ⟨S8x8x4096x128, .bf16⟩
  | .hbm, ⟨63, _⟩ => ⟨S8x4096x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x1x1024x128, .bf16⟩
  | .local _ .vmem, ⟨3, _⟩ => ⟨S1x1x1024x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S8x128x512, .bf16⟩
  | .local _ .vmem, ⟨9, _⟩ => ⟨S8x128x512, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x1024x128, .bf16⟩
  | .local _ .vmem, ⟨13, _⟩ => ⟨S1x1024x128, .bf16⟩
  | .local _ .vmem, ⟨14, _⟩ => ⟨S2x1x1024, .f32⟩
  | .local _ .vmem, ⟨15, _⟩ => ⟨S2x144x1024, .f32⟩
  | _, _ => ⟨S8x4096x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_c : Ref sig .tc := ⟨.hbm, 50, rfl⟩
abbrev main_call0_v0 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_5 : Ref sig .tc := ⟨.hbm, 58, rfl⟩
abbrev main_call1_v0 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 8, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S8x4096x16x64 : Shape := ⟨4, ![8, 4096, 16, 64]⟩
abbrev S8x4096x16 : Shape := ⟨3, ![8, 4096, 16]⟩
abbrev S8x4096x1024 : Shape := ⟨3, ![8, 4096, 1024]⟩
abbrev S8x16x4096x4096 : Shape := ⟨4, ![8, 16, 4096, 4096]⟩
abbrev S_ : Shape := ⟨0, ![]⟩
abbrev S8x16x4096 : Shape := ⟨3, ![8, 16, 4096]⟩
abbrev S8x16x4096x1 : Shape := ⟨4, ![8, 16, 4096, 1]⟩
abbrev S8x16x1x4096 : Shape := ⟨4, ![8, 16, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x16x64x4096 : Shape := ⟨4, ![8, 16, 64, 4096]⟩

abbrev nBuf : Space → Nat
  | .hbm => 56
  | .vmem => 0
  | .smem => 0
  | _ => 0

abbrev bufTy : (tb : Table) → Fin (tcTables nBuf tb) → BufTy
  | .hbm, ⟨0, _⟩ => ⟨S8x4096x16x64, .f32⟩
  | .hbm, ⟨1, _⟩ => ⟨S8x4096x16x64, .f32⟩
  | .hbm, ⟨2, _⟩ => ⟨S8x4096x16x64, .f32⟩
  | .hbm, ⟨3, _⟩ => ⟨S8x4096x16, .f32⟩
  | .hbm, ⟨4, _⟩ => ⟨S8x4096x1024, .f32⟩
  | .hbm, ⟨5, _⟩ => ⟨S8x16x4096x4096, .f32⟩
  | .hbm, ⟨6, _⟩ => ⟨S_, .f32⟩
  | .hbm, ⟨7, _⟩ => ⟨S8x16x4096x4096, .f32⟩
  | .hbm, ⟨8, _⟩ => ⟨S8x16x4096x4096, .f32⟩
  | .hbm, ⟨9, _⟩ => ⟨S8x16x4096, .f32⟩
  | .hbm, ⟨10, _⟩ => ⟨S8x16x4096x1, .f32⟩
  | .hbm, ⟨11, _⟩ => ⟨S8x16x4096x4096, .f32⟩
  | .hbm, ⟨12, _⟩ => ⟨S8x16x4096x4096, .f32⟩
  | .hbm, ⟨13, _⟩ => ⟨S8x16x4096, .f32⟩
  | .hbm, ⟨14, _⟩ => ⟨S8x16x1x4096, .f32⟩
  | .hbm, ⟨15, _⟩ => ⟨S8x16x4096x4096, .f32⟩
  | .hbm, ⟨16, _⟩ => ⟨S8x16x4096x4096, .f32⟩
  | .hbm, ⟨17, _⟩ => ⟨S4096, .i32⟩
  | .hbm, ⟨18, _⟩ => ⟨S4096, .i32⟩
  | .hbm, ⟨19, _⟩ => ⟨S1x4096, .i32⟩
  | .hbm, ⟨20, _⟩ => ⟨S4096x1, .i32⟩
  | .hbm, ⟨21, _⟩ => ⟨S4096x4096, .i32⟩
  | .hbm, ⟨22, _⟩ => ⟨S4096x4096, .i32⟩
  | .hbm, ⟨23, _⟩ => ⟨S4096x4096, .i1⟩
  | .hbm, ⟨24, _⟩ => ⟨S_, .f32⟩
  | .hbm, ⟨25, _⟩ => ⟨S_, .f32⟩
  | .hbm, ⟨26, _⟩ => ⟨S8x16x4096x4096, .i1⟩
  | .hbm, ⟨27, _⟩ => ⟨S8x16x4096x4096, .f32⟩
  | .hbm, ⟨28, _⟩ => ⟨S8x16x4096x4096, .f32⟩
  | .hbm, ⟨29, _⟩ => ⟨S_, .f32⟩
  | .hbm, ⟨30, _⟩ => ⟨S8x16x4096, .f32⟩
  | .hbm, ⟨31, _⟩ => ⟨S_, .f32⟩
  | .hbm, ⟨32, _⟩ => ⟨S8x16x4096, .f32⟩
  | .hbm, ⟨33, _⟩ => ⟨S8x16x4096, .f32⟩
  | .hbm, ⟨34, _⟩ => ⟨S8x16x4096x1, .f32⟩
  | .hbm, ⟨35, _⟩ => ⟨S8x16x4096x4096, .f32⟩
  | .hbm, ⟨36, _⟩ => ⟨S8x16x4096x4096, .f32⟩
  | .hbm, ⟨37, _⟩ => ⟨S8x16x4096x4096, .f32⟩
  | .hbm, ⟨38, _⟩ => ⟨S_, .f32⟩
  | .hbm, ⟨39, _⟩ => ⟨S8x16x4096, .f32⟩
  | .hbm, ⟨40, _⟩ => ⟨S8x16x4096x1, .f32⟩
  | .hbm, ⟨41, _⟩ => ⟨S8x16x4096x4096, .f32⟩
  | .hbm, ⟨42, _⟩ => ⟨S8x16x4096x4096, .f32⟩
  | .hbm, ⟨43, _⟩ => ⟨S8x16x64x4096, .f32⟩
  | .hbm, ⟨44, _⟩ => ⟨S8x4096x16x64, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S_, .f32⟩
  | .hbm, ⟨49, _⟩ => ⟨S8x4096x1024, .f32⟩
  | .hbm, ⟨50, _⟩ => ⟨S8x4096x1024, .f32⟩
  | .hbm, ⟨51, _⟩ => ⟨S_, .f32⟩
  | .hbm, ⟨52, _⟩ => ⟨S8x4096x1024, .f32⟩
  | .hbm, ⟨53, _⟩ => ⟨S8x4096x1024, .f32⟩
  | .hbm, ⟨54, _⟩ => ⟨S8x4096x1024, .f32⟩
  | .hbm, ⟨55, _⟩ => ⟨S8x4096x1024, .bf16⟩
  | _, _ => ⟨S8x4096x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_4 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩

abbrev nD : Nat := 1
abbrev τ : Topo := Topo.v7x

variable {F : FTy → Type} [FloatOps F]
-- ==== Ffn.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S1024x22x256 : Shape := ⟨3, ![1024, 22, 256]⟩
abbrev S22x1024x256 : Shape := ⟨3, ![22, 1024, 256]⟩
abbrev S32768x1024 : Shape := ⟨2, ![32768, 1024]⟩
abbrev S1x1024 : Shape := ⟨2, ![1, 1024]⟩
abbrev S1024x1024 : Shape := ⟨2, ![1024, 1024]⟩
abbrev S1x1024x256 : Shape := ⟨3, ![1, 1024, 256]⟩
abbrev S256x1024 : Shape := ⟨2, ![256, 1024]⟩
abbrev S1024x1 : Shape := ⟨2, ![1024, 1]⟩
abbrev S1024x256 : Shape := ⟨2, ![1024, 256]⟩

abbrev nBuf : Space → Nat
  | .hbm => 11
  | .vmem => 12
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024x22x256, .f32⟩
  | .hbm, ⟨5, _⟩ => ⟨S22x1024x256, .f32⟩
  | .hbm, ⟨6, _⟩ => ⟨S22x1024x256, .bf16⟩
  | .hbm, ⟨7, _⟩ => ⟨S32768x1024, .f32⟩
  | .hbm, ⟨8, _⟩ => ⟨S2816x1024, .bf16⟩
  | .hbm, ⟨9, _⟩ => ⟨S1x1024, .f32⟩
  | .hbm, ⟨10, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S256x1024, .bf16⟩
  | .local _ .vmem, ⟨8, _⟩ => ⟨S256x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  let c0_i32_1 : BitVec 32 := 0#32
  ![v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== FfnReferenceIdeal.lean ====
abbrev S8x4096x1024 : Shape := ⟨3, ![8, 4096, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x5632 : Shape := ⟨2, ![32768, 5632]⟩
abbrev S32768x2816 : Shape := ⟨2, ![32768, 2816]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S32768x1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S32768x5632, .f32⟩
  | .hbm, ⟨22, _⟩ => ⟨S32768x2816, .f32⟩
  | .hbm, ⟨23, _⟩ => ⟨S32768x2816, .f32⟩
  | .hbm, ⟨24, _⟩ => ⟨S32768x2816, .f32⟩
  | .hbm, ⟨25, _⟩ => ⟨S32768x2816, .f32⟩
  | .hbm, ⟨26, _⟩ => ⟨S_, .f32⟩
  | .hbm, ⟨27, _⟩ => ⟨S32768x2816, .f32⟩
  | .hbm, ⟨28, _⟩ => ⟨S32768x2816, .f32⟩
  | .hbm, ⟨29, _⟩ => ⟨S_, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S32768x2816, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kv.lean ====
abbrev S8x4096x1024 : Shape := ⟨3, ![8, 4096, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S16x1 : Shape := ⟨2, ![16, 1]⟩
abbrev S16x64 : Shape := ⟨2, ![16, 64]⟩
abbrev S128 : Shape := ⟨1, ![128]⟩
abbrev S32768x1024 : Shape := ⟨2, ![32768, 1024]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S1x128 : Shape := ⟨2, ![1, 128]⟩
abbrev S1x64 : Shape := ⟨2, ![1, 64]⟩
abbrev S1x1024 : Shape := ⟨2, ![1, 1024]⟩
abbrev S1024x1 : Shape := ⟨2, ![1024, 1]⟩
abbrev S128x1 : Shape := ⟨2, ![128, 1]⟩
abbrev S128x1024 : Shape := ⟨2, ![128, 1024]⟩
abbrev S32768x16x64 : Shape := ⟨3, ![32768, 16, 64]⟩
abbrev S32768x128 : Shape := ⟨2, ![32768, 128]⟩
abbrev S8x32768x128 : Shape := ⟨3, ![8, 32768, 128]⟩
abbrev S64x1024x512 : Shape := ⟨3, ![64, 1024, 512]⟩
abbrev S512x1024 : Shape := ⟨2, ![512, 1024]⟩
abbrev S512x16x64 : Shape := ⟨3, ![512, 16, 64]⟩
abbrev S512x128 : Shape := ⟨2, ![512, 128]⟩
abbrev S8x512x128 : Shape := ⟨3, ![8, 512, 128]⟩
abbrev S1x1024x512 : Shape := ⟨3, ![1, 1024, 512]⟩
abbrev S512 : Shape := ⟨1, ![512]⟩
abbrev S512x1 : Shape := ⟨2, ![512, 1]⟩
abbrev S1x512x128 : Shape := ⟨3, ![1, 512, 128]⟩
abbrev S1024x512 : Shape := ⟨2, ![1024, 512]⟩

abbrev nBuf : Space → Nat
  | .hbm => 47
  | .vmem => 20
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S64, .f32⟩
  | .hbm, ⟨5, _⟩ => ⟨S16, .i32⟩
  | .hbm, ⟨6, _⟩ => ⟨S16x1, .i32⟩
  | .hbm, ⟨7, _⟩ => ⟨S16x64, .i32⟩
  | .hbm, ⟨8, _⟩ => ⟨S1024, .i32⟩
  | .hbm, ⟨9, _⟩ => ⟨S128, .i32⟩
  | .hbm, ⟨10, _⟩ => ⟨S32768x1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x16, .f32⟩
  | .hbm, ⟨17, _⟩ => ⟨S_, .i32⟩
  | .hbm, ⟨18, _⟩ => ⟨S_, .f32⟩
  | .hbm, ⟨19, _⟩ => ⟨S1024x128, .f32⟩
  | .hbm, ⟨20, _⟩ => ⟨S1024x128, .bf16⟩
  | .hbm, ⟨21, _⟩ => ⟨S_, .i32⟩
  | .hbm, ⟨22, _⟩ => ⟨S_, .f32⟩
  | .hbm, ⟨23, _⟩ => ⟨S128, .f32⟩
  | .hbm, ⟨24, _⟩ => ⟨S1x128, .f32⟩
  | .hbm, ⟨25, _⟩ => ⟨S1x64, .f32⟩
  | .hbm, ⟨26, _⟩ => ⟨S16x64, .f32⟩
  | .hbm, ⟨27, _⟩ => ⟨S1024, .f32⟩
  | .hbm, ⟨28, _⟩ => ⟨S1x1024, .f32⟩
  | .hbm, ⟨29, _⟩ => ⟨S1024x1, .i32⟩
  | .hbm, ⟨30, _⟩ => ⟨S1x128, .i32⟩
  | .hbm, ⟨31, _⟩ => ⟨S1024x128, .i32⟩
  | .hbm, ⟨32, _⟩ => ⟨S1024x128, .i32⟩
  | .hbm, ⟨33, _⟩ => ⟨S1024x128, .i1⟩
  | .hbm, ⟨34, _⟩ => ⟨S1024x128, .bf16⟩
  | .hbm, ⟨35, _⟩ => ⟨S128x1, .i32⟩
  | .hbm, ⟨36, _⟩ => ⟨S1x1024, .i32⟩
  | .hbm, ⟨37, _⟩ => ⟨S128x1024, .i32⟩
  | .hbm, ⟨38, _⟩ => ⟨S128x1024, .i32⟩
  | .hbm, ⟨39, _⟩ => ⟨S128x1024, .i1⟩
  | .hbm, ⟨40, _⟩ => ⟨S128x1024, .bf16⟩
  | .hbm, ⟨41, _⟩ => ⟨S1x1024, .f32⟩
  | .hbm, ⟨42, _⟩ => ⟨S32768x16x64, .f32⟩
  | .hbm, ⟨43, _⟩ => ⟨S32768x16x64, .f32⟩
  | .hbm, ⟨44, _⟩ => ⟨S32768x128, .f32⟩
  | .hbm, ⟨45, _⟩ => ⟨S8x32768x128, .bf16⟩
  | .hbm, ⟨46, _⟩ => ⟨S64x1024x512, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1x128, .f32⟩
  | .local _ .vmem, ⟨7, _⟩ => ⟨S1x1024, .f32⟩
  | .local _ .vmem, ⟨8, _⟩ => ⟨S1024x128, .bf16⟩
  | .local _ .vmem, ⟨9, _⟩ => ⟨S128x1024, .bf16⟩
  | .local _ .vmem, ⟨10, _⟩ => ⟨S512x16x64, .f32⟩
  | .local _ .vmem, ⟨11, _⟩ => ⟨S512x16x64, .f32⟩
  | .local _ .vmem, ⟨12, _⟩ => ⟨S512x16x64, .f32⟩
  | .local _ .vmem, ⟨13, _⟩ => ⟨S512x16x64, .f32⟩
  | .local _ .vmem, ⟨14, _⟩ => ⟨S512x128, .f32⟩
  | .local _ .vmem, ⟨15, _⟩ => ⟨S512x128, .f32⟩
  | .local _ .vmem, ⟨16, _⟩ => ⟨S8x512x128, .bf16⟩
  | .local _ .vmem, ⟨17, _⟩ => ⟨S8x512x128, .bf16⟩
  | .local _ .vmem, ⟨18, _⟩ => ⟨S1x1024x512, .bf16⟩
  | .local _ .vmem, ⟨19, _⟩ => ⟨S1x1024x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_c_0 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33_0 : Ref sig .tc := ⟨.hbm, 42, rfl⟩
abbrev main_v33_1 : Ref sig .tc := ⟨.hbm, 43, rfl⟩
abbrev main_v33_2 : Ref sig .tc := ⟨.hbm, 44, rfl⟩
abbrev main_v33_3 : Ref sig .tc := ⟨.hbm, 45, rfl⟩
abbrev main_v33_4 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x16x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x16x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S8x512x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== KvReferenceIdeal.lean ====
abbrev S8x4096x1024 : Shape := ⟨3, ![8, 4096, 1024]⟩
abbrev S1024 : Shape := ⟨1, ![1024]⟩
abbrev S1024x2064 : Shape := ⟨2, ![1024, 2064]⟩
abbrev S16 : Shape := ⟨1, ![16]⟩
abbrev S64 : Shape := ⟨1, ![64]⟩
abbrev S32768x1024 : Shape := ⟨2, ![32768, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x2064 : Shape := ⟨2, ![32768, 2064]⟩
abbrev S32768x16x64 : Shape := ⟨3, ![32768, 16, 64]⟩
abbrev S32768x16 : Shape := ⟨2, ![32768, 16]⟩
abbrev S32768x16x1 : Shape := ⟨3, ![32768, 16, 1]⟩
abbrev S1x1x64 : Shape := ⟨3, ![1, 1, 64]⟩
abbrev S1x16 : Shape := ⟨2, ![1, 16]⟩
abbrev S32768x128 : Shape := ⟨2, ![32768, 128]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024, .f32⟩
  | .hbm, ⟨2, _⟩ => ⟨S1024x2064, .f32⟩
  | .hbm, ⟨3, _⟩ => ⟨S16, .f32⟩
  | .hbm, ⟨4, _⟩ => ⟨S64, .f32⟩
  | .hbm, ⟨5, _⟩ => ⟨S32768x1024, .f32⟩
  | .hbm, ⟨6, _⟩ => ⟨S32768x1024, .f32⟩
  | .hbm, ⟨7, _⟩ => ⟨S_, .f32⟩
  | .hbm, ⟨8, _⟩ => ⟨S32768, .f32⟩
  | .hbm, ⟨9, _⟩ => ⟨S32768x1, .f32⟩
  | .hbm, ⟨10, _⟩ => ⟨S_, .f32⟩
  | .hbm, ⟨11, _⟩ => ⟨S32768x1, .f32⟩
  | .hbm, ⟨12, _⟩ => ⟨S32768x1, .f32⟩
  | .hbm, ⟨13, _⟩ => ⟨S_, .f32⟩
  | .hbm, ⟨14, _⟩ => ⟨S32768x1, .f32⟩
  | .hbm, ⟨15, _⟩ => ⟨S32768x1, .f32⟩
  | .hbm, ⟨16, _⟩ => ⟨S32768x1, .f32⟩
  | .hbm, ⟨17, _⟩ => ⟨S32768x1024, .f32⟩
  | .hbm, ⟨18, _⟩ => ⟨S32768x1024, .f32⟩
  | .hbm, ⟨19, _⟩ => ⟨S1x1024, .f32⟩
  | .hbm, ⟨20, _⟩ => ⟨S32768x1024, .f32⟩
  | .hbm, ⟨21, _⟩ => ⟨S32768x1024, .f32⟩
  | .hbm, ⟨22, _⟩ => ⟨S32768x2064, .f32⟩
  | .hbm, ⟨23, _⟩ => ⟨S32768x1024, .f32⟩
  | .hbm, ⟨24, _⟩ => ⟨S32768x16x64, .f32⟩
  | .hbm, ⟨25, _⟩ => ⟨S32768x16x64, .f32⟩
  | .hbm, ⟨26, _⟩ => ⟨S_, .f32⟩
  | .hbm, ⟨27, _⟩ => ⟨S32768x16, .f32⟩
  | .hbm, ⟨28, _⟩ => ⟨S32768x16x1, .f32⟩
  | .hbm, ⟨29, _⟩ => ⟨S_, .f32⟩
  | .hbm, ⟨30, _⟩ => ⟨S32768x16x1, .f32⟩
  | .hbm, ⟨31, _⟩ => ⟨S32768x16x1, .f32⟩
  | .hbm, ⟨32, _⟩ => ⟨S_, .f32⟩
  | .hbm, ⟨33, _⟩ => ⟨S32768x16x1, .f32⟩
  | .hbm, ⟨34, _⟩ => ⟨S32768x16x1, .f32⟩
  | .hbm, ⟨35, _⟩ => ⟨S32768x16x1, .f32⟩
  | .hbm, ⟨36, _⟩ => ⟨S32768x16x64, .f32⟩
  | .hbm, ⟨37, _⟩ => ⟨S32768x16x64, .f32⟩
  | .hbm, ⟨38, _⟩ => ⟨S1x1x64, .f32⟩
  | .hbm, ⟨39, _⟩ => ⟨S32768x16x64, .f32⟩
  | .hbm, ⟨40, _⟩ => ⟨S32768x16x64, .f32⟩
  | .hbm, ⟨41, _⟩ => ⟨S32768x1024, .f32⟩
  | .hbm, ⟨42, _⟩ => ⟨S32768x16x64, .f32⟩
  | .hbm, ⟨43, _⟩ => ⟨S32768x16, .f32⟩
  | .hbm, ⟨44, _⟩ => ⟨S1x16, .f32⟩
  | .hbm, ⟨45, _⟩ => ⟨S32768x16, .f32⟩
  | .hbm, ⟨46, _⟩ => ⟨S32768x16, .f32⟩
  | .hbm, ⟨47, _⟩ => ⟨S_, .f32⟩
  | .hbm, ⟨48, _⟩ => ⟨S32768x128, .f32⟩
  | .hbm, ⟨49, _⟩ => ⟨S32768x128, .f32⟩
  | .hbm, ⟨50, _⟩ => ⟨S_, .f32⟩
  | .hbm, ⟨51, _⟩ => ⟨S32768x128, .f32⟩
  | .hbm, ⟨52, _⟩ => ⟨S32768x128, .f32⟩
  | .hbm, ⟨53, _⟩ => ⟨S32768x128, .f32⟩
  | .hbm, ⟨54, _⟩ => ⟨S32768x128, .f32⟩
  | .hbm, ⟨55, _⟩ => ⟨S32768x128, .i1⟩
  | .hbm, ⟨56, _⟩ => ⟨S32768x128, .f32⟩
  | .hbm, ⟨57, _⟩ => ⟨S32768x128, .f32⟩
  | .hbm, ⟨58, _⟩ => ⟨S32768x128, .f32⟩
  | .hbm, ⟨59, _⟩ => ⟨S32768x128, .f32⟩
  | .hbm, ⟨60, _⟩ => ⟨S32768x128, .f32⟩
  | .hbm, ⟨61, _⟩ => ⟨S32768x128, .f32⟩
  | .hbm, ⟨62, _⟩ => ⟨S32768x128, .f32⟩
  | .hbm, ⟨63, _⟩ => ⟨S32768x128, .f32⟩
  | .hbm, ⟨64, _⟩ => ⟨S32768x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_5 : Ref sig .tc := ⟨.hbm, 47, rfl⟩
abbrev main_v36 : Ref sig .tc := ⟨.hbm, 48, rfl⟩
abbrev main_call0_v0 : Ref sig .tc := ⟨.hbm, 49, rfl⟩
abbrev main_call0_call0_cst : Ref sig .tc := ⟨.hbm, 50, rfl⟩
abbrev main_call0_call0_v0 : Ref sig .tc := ⟨.hbm, 51, rfl⟩
abbrev main_call0_call0_v1 : Ref sig .tc := ⟨.hbm, 52, rfl⟩
abbrev main_call0_call0_v2 : Ref sig .tc := ⟨.hbm, 53, rfl⟩
abbrev main_call0_call0_v3 : Ref sig .tc := ⟨.hbm, 54, rfl⟩
abbrev main_call0_call0_v4 : Ref sig .tc := ⟨.hbm, 55, rfl⟩
abbrev main_call0_call0_v5 : Ref sig .tc := ⟨.hbm, 56, rfl⟩
abbrev main_call0_call0_v6 : Ref sig .tc := ⟨.hbm, 57, rfl⟩
abbrev main_call0_call0_v7 : Ref sig .tc := ⟨.hbm, 58, rfl⟩
abbrev main_call0_call0_v8 : Ref sig .tc := ⟨.hbm, 59, rfl⟩
abbrev main_call0_call0_v9 : Ref sig .tc := ⟨.hbm, 60, rfl⟩
abbrev main_call0_call0_v10 : Ref sig .tc := ⟨.hbm, 61, rfl⟩
abbrev main_call0_call0_v11 : Ref sig .tc := ⟨.hbm, 62, rfl⟩
abbrev main_call0_v1 : Ref sig .tc := ⟨.hbm, 63, rfl⟩
abbrev main_v37 : Ref sig .tc := ⟨.hbm, 64, rfl⟩

abbrev nD : Nat := 1
abbrev τ : Topo := Topo.v7x

variable {F : FTy → Type} [FloatOps F]
-- ==== Proof.Softmax.lean ====
/- The arithmetic of one query row of the attention, on extended reals: a softmax that is taken block by block with a
   running maximum and a rescaled accumulator gives the same row as the softmax taken over all the keys at once. -/
module

public import Idealize.ShloMosaic.Lib.Pointwise
public import Idealize.ShloMosaic.Lib.Pipeline.ValueKit

@[expose] public section

set_option maxRecDepth 16384

noncomputable section

namespace Cert.Row

open Idealize.ShloMosaic

/-! ## The exponentials -/

theorem exp2_bot : Ideal.exp2 ⊥ = 0 := rfl
theorem exp2_coe (r : ℝ) : Ideal.exp2 (r : EReal) = ((Real.rpow 2 r : ℝ) : EReal) := rfl
theorem exp_bot : Ideal.exp ⊥ = 0 := rfl
theorem exp_coe (r : ℝ) : Ideal.exp (r : EReal) = ((Real.exp r : ℝ) : EReal) := rfl

/-- A power of two of a difference of reals is an exponential. -/
theorem exp2_sub (a b : ℝ) : Ideal.exp2 ((a : EReal) - (b : EReal)) = ((Real.exp ((a - b) * Real.log 2) : ℝ) : EReal) := by
  rw [← EReal.coe_sub, exp2_coe]
  congr 1
  show (2 : ℝ) ^ (a - b) = _
  rw [Real.rpow_def_of_pos (by norm_num), mul_comm]

theorem exp_sub (a b : ℝ) : Ideal.exp ((a : EReal) - (b : EReal)) = ((Real.exp (a - b) : ℝ) : EReal) := by
  rw [← EReal.coe_sub, exp_coe]

theorem bot_sub_coe (b : ℝ) : (⊥ : EReal) - (b : EReal) = ⊥ := EReal.bot_sub _

/-- Moving the reference point of a power of two from one real to another. -/
theorem exp2_move (a b : ℝ) (s : EReal) (hs : s ≠ ⊤) :
    Ideal.exp2 ((a : EReal) - (b : EReal)) * Ideal.exp2 (s - (a : EReal)) = Ideal.exp2 (s - (b : EReal)) := by
  induction s with
  | bot => rw [bot_sub_coe, bot_sub_coe, exp2_bot, mul_zero]
  | top => exact absurd rfl hs
  | coe r =>
    rw [exp2_sub, exp2_sub, exp2_sub, ← EReal.coe_mul, ← Real.exp_add]
    congr 2; ring

/-- A finite nonnegative factor goes into a sum of extended reals. -/
theorem coe_mul_sum {ι : Type} (S : Finset ι) (f : ι → EReal) (a : ℝ) (ha : 0 ≤ a) :
    (a : EReal) * ∑ i ∈ S, f i = ∑ i ∈ S, (a : EReal) * f i := by
  classical
  induction S using Finset.induction_on with
  | empty => simp
  | insert i S hi ih =>
    rw [Finset.sum_insert hi, Finset.sum_insert hi,
      EReal.left_distrib_of_nonneg_of_ne_top (EReal.coe_nonneg.mpr ha) (EReal.coe_ne_top a), ih]

/-! ## The maximum of a list of scores -/

/-- The largest of finitely many scores, none of them `⊤` and one of them finite, is finite. -/
theorem fold_real {n : ℕ} (f : Fin n → EReal) (hf : ∀ k, f k ≠ ⊤) (k₀ : Fin n) (h₀ : f k₀ ≠ ⊥) :
    ∃ r : ℝ, Finset.univ.fold max ⊥ f = (r : EReal) := by
  have hlt : Finset.univ.fold max ⊥ f < ⊤ :=
    (Finset.fold_max_lt _).mpr ⟨bot_lt_top, fun k _ => lt_top_iff_ne_top.mpr (hf k)⟩
  have hge : f k₀ ≤ Finset.univ.fold max ⊥ f := (Finset.le_fold_max _).mpr (Or.inr ⟨k₀, Finset.mem_univ _, le_rfl⟩)
  have hb : Finset.univ.fold max ⊥ f ≠ ⊥ := fun h => h₀ (le_bot_iff.mp (h ▸ hge))
  exact ⟨_, (EReal.coe_toReal hlt.ne hb).symm⟩

theorem fold_ne_top {n : ℕ} (f : Fin n → EReal) (hf : ∀ k, f k ≠ ⊤) : Finset.univ.fold max ⊥ f ≠ ⊤ :=
  ((Finset.fold_max_lt _).mpr ⟨bot_lt_top, fun k _ => lt_top_iff_ne_top.mpr (hf k)⟩).ne

/-! ## The running maximum and the rescaled accumulator -/

/-- The running maximum after `n` blocks of 512 scores. -/
def runM (s : ℕ → Fin 512 → EReal) : ℕ → EReal
  | 0 => ⊥
  | n + 1 => max (runM s n) (Finset.univ.fold max ⊥ (s n))

/-- The accumulator after `n` blocks: what was there, rescaled to the new maximum, and the block's weighted sum. -/
def runA (s w : ℕ → Fin 512 → EReal) : ℕ → EReal
  | 0 => 0
  | n + 1 => Ideal.exp2 (runM s n - runM s (n + 1)) * runA s w n + ∑ k, w n k * Ideal.exp2 (s n k - runM s (n + 1))

theorem runM_congr (s s' : ℕ → Fin 512 → EReal) (n : ℕ) (h : ∀ b < n, s b = s' b) : runM s n = runM s' n := by
  induction n with
  | zero => rfl
  | succ n ih => simp only [runM, ih fun b hb => h b (by omega), h n (by omega)]

theorem runA_congr (s s' w w' : ℕ → Fin 512 → EReal) (n : ℕ) (h : ∀ b < n, s b = s' b) (hw : ∀ b < n, w b = w' b) :
    runA s w n = runA s' w' n := by
  induction n with
  | zero => rfl
  | succ n ih =>
    simp only [runA, ih (fun b hb => h b (by omega)) fun b hb => hw b (by omega), h n (by omega), hw n (by omega),
      runM_congr s s' n fun b hb => h b (by omega), runM_congr s s' (n + 1) h]

variable {s w : ℕ → Fin 512 → EReal}

theorem runM_real (hs : ∀ b k, s b k ≠ ⊤) (k₀ : Fin 512) (h₀ : s 0 k₀ ≠ ⊥) (n : ℕ) : ∃ r : ℝ, runM s (n + 1) = (r : EReal) := by
  induction n with
  | zero =>
    obtain ⟨r, hr⟩ := fold_real (s 0) (hs 0) k₀ h₀
    exact ⟨r, by simp only [runM, hr, bot_le, max_eq_right]⟩
  | succ n ih =>
    obtain ⟨r, hr⟩ := ih
    have hne := fold_ne_top (s (n + 1)) (hs (n + 1))
    show ∃ r' : ℝ, max (runM s (n + 1)) (Finset.univ.fold max ⊥ (s (n + 1))) = (r' : EReal)
    rw [hr]
    generalize Finset.univ.fold max ⊥ (s (n + 1)) = y at hne ⊢
    induction y with
    | bot => exact ⟨r, max_eq_left bot_le⟩
    | top => exact absurd rfl hne
    | coe y => exact ⟨max r y, (EReal.coe_strictMono.monotone.map_max).symm⟩

/-- The accumulator after the blocks is the sum, over all the keys seen, of the weights at the final maximum. -/
theorem runA_eq (hs : ∀ b k, s b k ≠ ⊤) (k₀ : Fin 512) (h₀ : s 0 k₀ ≠ ⊥) (n : ℕ) :
    runA s w (n + 1) = ∑ b ∈ Finset.range (n + 1), ∑ k, w b k * Ideal.exp2 (s b k - runM s (n + 1)) := by
  induction n with
  | zero =>
    rw [Finset.sum_range_one]
    show Ideal.exp2 _ * (0 : EReal) + _ = _
    rw [mul_zero, zero_add]
  | succ n ih =>
    obtain ⟨a, ha⟩ := runM_real hs k₀ h₀ n
    obtain ⟨b, hb⟩ := runM_real hs k₀ h₀ (n + 1)
    rw [Finset.sum_range_succ]
    show Ideal.exp2 (runM s (n + 1) - runM s (n + 1 + 1)) * runA s w (n + 1) + _ = _
    rw [ih, ha, hb]
    congr 1
    rw [exp2_sub, coe_mul_sum _ _ _ (Real.exp_pos _).le]
    refine Finset.sum_congr rfl fun i _ => ?_
    rw [coe_mul_sum _ _ _ (Real.exp_pos _).le]
    refine Finset.sum_congr rfl fun k _ => ?_
    rw [← exp2_sub, mul_left_comm, exp2_move _ _ _ (hs i k)]

/-! ## The row -/

/-- The scores of block `b` in the base of two, the keys after the query hidden. -/
def scores (X : ℕ → ℝ) (t : ℕ) (b : ℕ) (k : Fin 512) : EReal :=
  if 512 * b + k.val ≤ t then ((X (512 * b + k.val) / Real.log 2 : ℝ) : EReal) else ⊥

/-- The natural logits, the keys after the query hidden. -/
def logits (X : ℕ → ℝ) (t : ℕ) (κ : ℕ) : EReal := if κ ≤ t then (X κ : EReal) else ⊥

theorem scores_ne_top (X : ℕ → ℝ) (t b : ℕ) (k : Fin 512) : scores X t b k ≠ ⊤ := by
  unfold scores; split
  · exact EReal.coe_ne_top _
  · exact bot_ne_top

theorem scores_zero (X : ℕ → ℝ) (t : ℕ) : scores X t 0 0 ≠ ⊥ := by
  unfold scores; rw [if_pos (by simp)]; exact EReal.coe_ne_bot _

/-- The weight of a key at the maximum `M`, a real number. -/
def weight (X : ℕ → ℝ) (t : ℕ) (M : ℝ) (κ : ℕ) : ℝ := if κ ≤ t then Real.exp (X κ - M) else 0

theorem weight_nonneg (X : ℕ → ℝ) (t : ℕ) (M : ℝ) (κ : ℕ) : 0 ≤ weight X t M κ := by
  unfold weight; split
  · exact (Real.exp_pos _).le
  · exact le_rfl

theorem exp_logits (X : ℕ → ℝ) (t κ : ℕ) (M : ℝ) : Ideal.exp (logits X t κ - (M : EReal)) = (weight X t M κ : EReal) := by
  unfold logits weight; split
  · exact exp_sub _ _
  · rw [bot_sub_coe, exp_bot, EReal.coe_zero]

theorem exp2_scores (X : ℕ → ℝ) (t b : ℕ) (k : Fin 512) (M M' : ℝ) :
    Ideal.exp2 (scores X t b k - (M : EReal)) = ((Real.exp (M' - M * Real.log 2) * weight X t M' (512 * b + k.val) : ℝ) : EReal) := by
  have h2 : Real.log 2 ≠ 0 := (Real.log_pos (by norm_num)).ne'
  unfold scores weight; split
  · rw [exp2_sub, ← Real.exp_add]; congr 2; field_simp; ring
  · rw [bot_sub_coe, exp2_bot, mul_zero, EReal.coe_zero]

/-- The sum over the blocks up to the query's own is the sum over all the keys: the others weigh nothing. -/
theorem sum_blocks (t : ℕ) (ht : t < 4096) (f : ℕ → EReal) (hf : ∀ κ, t < κ → f κ = 0) :
    ∑ b ∈ Finset.range (t / 512 + 1), ∑ k : Fin 512, f (512 * b + k.val) = ∑ κ : Fin 4096, f κ.val := by
  have h8 : ∑ b ∈ Finset.range (t / 512 + 1), ∑ k : Fin 512, f (512 * b + k.val)
      = ∑ b ∈ Finset.range 8, ∑ k : Fin 512, f (512 * b + k.val) := by
    refine Finset.sum_subset (fun b hb => ?_) fun b _ hb => ?_
    · rw [Finset.mem_range] at hb ⊢; omega
    · rw [Finset.mem_range] at hb
      exact Finset.sum_eq_zero fun k _ => hf _ (by omega)
  have hk : ∀ b, ∑ k : Fin 512, f (512 * b + k.val) = ∑ k ∈ Finset.range 512, f (b * 512 + k) := fun b => by
    rw [Finset.sum_range, mul_comm]
  rw [h8, ← Finset.sum_range f, Finset.sum_congr rfl fun b _ => hk b]
  exact (Finset.sum_range_mul_split 8 512 f).symm

/-- THE ROW: the accumulator times the reciprocal of the accumulated denominator is the softmax's weighted sum. -/
theorem row (X : ℕ → ℝ) (V : ℕ → EReal) (t : ℕ) (ht : t < 4096) (M' : ℝ) :
    runA (scores X t) (fun b k => V (512 * b + k.val)) (t / 512 + 1) * Ideal.div 1 (runA (scores X t) (fun _ _ => 1) (t / 512 + 1))
      = ∑ κ : Fin 4096, V κ.val * Ideal.div (Ideal.exp (logits X t κ.val - (M' : EReal))) (∑ κ' : Fin 4096, Ideal.exp (logits X t κ'.val - (M' : EReal))) := by
  obtain ⟨M, hM⟩ := runM_real (scores_ne_top X t) 0 (scores_zero X t) (t / 512)
  set c : ℝ := Real.exp (M' - M * Real.log 2) with hc
  have hcpos : 0 < c := Real.exp_pos _
  have hw0 : ∀ κ, t < κ → weight X t M' κ = 0 := fun κ h => if_neg (by omega)
  have hA : ∀ W : ℕ → EReal, runA (scores X t) (fun b k => W (512 * b + k.val)) (t / 512 + 1)
      = (c : EReal) * ∑ κ : Fin 4096, W κ.val * (weight X t M' κ.val : EReal) := fun W => by
    rw [runA_eq (scores_ne_top X t) 0 (scores_zero X t), hM]
    rw [coe_mul_sum _ _ _ hcpos.le, ← sum_blocks t ht (fun κ => (c : EReal) * (W κ * (weight X t M' κ : EReal)))
      (fun κ h => by simp only [hw0 κ h, EReal.coe_zero, mul_zero])]
    refine Finset.sum_congr rfl fun b _ => Finset.sum_congr rfl fun k _ => ?_
    rw [exp2_scores X t b k M M', EReal.coe_mul, mul_left_comm]
  have hL : ∑ κ : Fin 4096, (weight X t M' κ.val : EReal) = ((∑ κ : Fin 4096, weight X t M' κ.val : ℝ) : EReal) :=
    (map_sum (⟨⟨Real.toEReal, EReal.coe_zero⟩, EReal.coe_add⟩ : ℝ →+ EReal) _ _).symm
  have hpos : 0 < ∑ κ : Fin 4096, weight X t M' κ.val := by
    refine Finset.sum_pos' (fun κ _ => weight_nonneg X t M' κ.val) ⟨0, Finset.mem_univ _, ?_⟩
    show 0 < weight X t M' 0
    unfold weight; rw [if_pos (Nat.zero_le _)]; exact Real.exp_pos _
  obtain ⟨L, hLdef⟩ : ∃ L : ℝ, L = ∑ κ : Fin 4096, weight X t M' κ.val := ⟨_, rfl⟩
  rw [← hLdef] at hL hpos
  have hdiv : ∀ x : EReal, ∀ r : ℝ, 0 < r → Ideal.div x (r : EReal) = x * ((r⁻¹ : ℝ) : EReal) := fun x r hr => by
    unfold Ideal.div
    rw [if_neg (by exact_mod_cast hr.ne'), EReal.coe_inv]
  have hone := hA fun _ => 1
  simp only [one_mul, hL] at hone
  rw [hone, hA V, ← EReal.coe_mul, hdiv _ _ (mul_pos hcpos hpos), one_mul]
  simp only [exp_logits, hL, hdiv _ _ hpos]
  rw [mul_right_comm, ← EReal.coe_mul, coe_mul_sum _ _ _ (by positivity)]
  refine Finset.sum_congr rfl fun κ _ => ?_
  rw [mul_left_comm, ← EReal.coe_mul]
  have hx : (weight X t M' κ.val * (c * (c * L)⁻¹) : ℝ) = weight X t M' κ.val * L⁻¹ := by
    rw [mul_inv, ← mul_assoc c, mul_inv_cancel₀ hcpos.ne', one_mul]
  rw [← EReal.coe_mul, ← hx, mul_comm (c * _)]

end Cert.Row

end
-- ==== Proof.Step.lean ====
/- One step of the attention kernel's loop, read at an index: what a block of 512 keys does to the running maximum and to
   the accumulator of one head, for all the queries of a block and for the later half of them. -/
module

public import proofs.«01_k».proof.Proof.Gen.KernelIdeal.Frame.Runs
public import proofs.«01_k».proof.Proof.Softmax
public import Idealize.ShloMosaic.Lib.Pointwise

@[expose] public section

set_option maxRecDepth 16384

noncomputable section

namespace Cert.KernelIdeal.Block

open Cert.KernelIdeal Cert.KernelIdeal.Gen Idealize.ShloMosaic Idealize.SL.Sem Cert.Row

/-! ## The step's vectors -/

/-- The new running maxima of a head. -/
def newMax (s : FVec Ideal S512x1024 .f32) (m : Vec Ideal S1x1x1024 .f32) : FVec Ideal S1x1024 .f32 :=
  maximumf (shapeCast S1x1024 m shapeCasts_S1x1x1024_S1x1024)
    (shapeCast S1x1024 (multiReduction .maximumf [0] S1024 s 0xFF800000#32 reduces_S512x1024_S1024 (.inl rfl) rfl) shapeCasts_S1024_S1x1024)

/-- The new accumulator of a head. -/
def newAcc (v : FVec Ideal S144x512 .bf16) (s : FVec Ideal S512x1024 .f32) (m : Vec Ideal S1x1x1024 .f32) (a : Vec Ideal S1x144x1024 .f32) :
    FVec Ideal S1x144x1024 .f32 :=
  shapeCast S1x144x1024
    (addf
      (mulf (broadcastTo S144x1024 (exp2 (subf (shapeCast S1x1024 m shapeCasts_S1x1x1024_S1x1024) (newMax s m))) broadcasts_S1x1024_S144x1024)
        (shapeCast S144x1024 a shapeCasts_S1x144x1024_S144x1024))
      (matmul dot_S144x512_S512x1024_S144x1024_1_0_0_1_n_n none v
        (truncf .bf16 (exp2 (subf s (broadcastTo S512x1024 (newMax s m) broadcasts_S1x1024_S512x1024))) bitsLt_bf16_f32)
        (constant S144x1024 .f32 0x00000000#32)))
    shapeCasts_S144x1024_S1x144x1024

/-- The maxima as they are stored. -/
def storeMax (x : FVec Ideal S1x1024 .f32) : FVec Ideal S1x1x1024 .f32 := shapeCast S1x1x1024 x shapeCasts_S1x1024_S1x1x1024

/-- The same for the later half of the queries. -/
def newMaxLate (s : FVec Ideal S512x512 .f32) (m : Vec Ideal S1x1x512 .f32) : FVec Ideal S1x512 .f32 :=
  maximumf (shapeCast S1x512 m shapeCasts_S1x1x512_S1x512)
    (shapeCast S1x512 (multiReduction .maximumf [0] S512 s 0xFF800000#32 reduces_S512x512_S512 (.inl rfl) rfl) shapeCasts_S512_S1x512)

def newAccLate (v : FVec Ideal S144x512 .bf16) (s : FVec Ideal S512x512 .f32) (m : Vec Ideal S1x1x512 .f32) (a : Vec Ideal S1x144x512 .f32) :
    FVec Ideal S1x144x512 .f32 :=
  shapeCast S1x144x512
    (addf
      (mulf (broadcastTo S144x512 (exp2 (subf (shapeCast S1x512 m shapeCasts_S1x1x512_S1x512) (newMaxLate s m))) broadcasts_S1x512_S144x512)
        (shapeCast S144x512 a shapeCasts_S1x144x512_S144x512))
      (matmul dot_S144x512_S512x512_S144x512_1_0_0_1_n_n none v
        (truncf .bf16 (exp2 (subf s (broadcastTo S512x512 (newMaxLate s m) broadcasts_S1x512_S512x512))) bitsLt_bf16_f32)
        (constant S144x512 .f32 0x00000000#32)))
    shapeCasts_S144x512_S1x144x512

def storeMaxLate (x : FVec Ideal S1x512 .f32) : FVec Ideal S1x1x512 .f32 := shapeCast S1x1x512 x shapeCasts_S1x512_S1x1x512

theorem negInf : Ideal.ofBits .f32 0xFF800000#32 = ⊥ := by
  simp [Ideal.ofBits, Ideal.ieee]

theorem storeMax_newMax (s : FVec Ideal S512x1024 .f32) (m : Vec Ideal S1x1x1024 .f32) (q : Fin 1024) :
    storeMax (newMax s m) (ix3 0 0 q) = max (m (ix3 0 0 q)) (Finset.univ.fold max ⊥ fun k : Fin 512 => s (ix2 k q)) := by
  pointwise [storeMax, newMax, negInf]

theorem newAcc_apply (v : FVec Ideal S144x512 .bf16) (s : FVec Ideal S512x1024 .f32) (m : Vec Ideal S1x1x1024 .f32) (a : Vec Ideal S1x144x1024 .f32)
    (r : Fin 144) (q : Fin 1024) :
    newAcc v s m a (ix3 0 r q) = Ideal.exp2 (m (ix3 0 0 q) - max (m (ix3 0 0 q)) (Finset.univ.fold max ⊥ fun k : Fin 512 => s (ix2 k q))) * a (ix3 0 r q)
      + ∑ k : Fin 512, v (ix2 r k) * Ideal.exp2 (s (ix2 k q) - max (m (ix3 0 0 q)) (Finset.univ.fold max ⊥ fun k : Fin 512 => s (ix2 k q))) := by
  pointwise [newAcc, newMax, negInf]
  rfl

theorem storeMax_newMaxLate (s : FVec Ideal S512x512 .f32) (m : Vec Ideal S1x1x512 .f32) (q : Fin 512) :
    storeMaxLate (newMaxLate s m) (ix3 0 0 q) = max (m (ix3 0 0 q)) (Finset.univ.fold max ⊥ fun k : Fin 512 => s (ix2 k q)) := by
  pointwise [storeMaxLate, newMaxLate, negInf]

theorem newAccLate_apply (v : FVec Ideal S144x512 .bf16) (s : FVec Ideal S512x512 .f32) (m : Vec Ideal S1x1x512 .f32) (a : Vec Ideal S1x144x512 .f32)
    (r : Fin 144) (q : Fin 512) :
    newAccLate v s m a (ix3 0 r q) = Ideal.exp2 (m (ix3 0 0 q) - max (m (ix3 0 0 q)) (Finset.univ.fold max ⊥ fun k : Fin 512 => s (ix2 k q))) * a (ix3 0 r q)
      + ∑ k : Fin 512, v (ix2 r k) * Ideal.exp2 (s (ix2 k q) - max (m (ix3 0 0 q)) (Finset.univ.fold max ⊥ fun k : Fin 512 => s (ix2 k q))) := by
  pointwise [newAccLate, newMaxLate, negInf]
  rfl

/-! ## A store read back at an index -/

section
variable {S : Shape} {e : EltTy} (off size : Fin S.rank → ℕ) (inb : ∀ a, off a + size a ≤ S.size a)

/-- Inside the last store: its payload. -/
theorem canon_hit (X : (Rect.unit off size inb).shape.Idx → Elt Ideal e) (L : List (View.Piece (Elt Ideal) S e)) (i : S.Idx)
    (x : (Rect.unit off size inb).shape.Idx) (h : ∀ a, (i a : ℕ) = off a + x a) :
    View.canon (⟨Rect.unit off size inb, X⟩ :: L) i = X x := by
  have hi : i = (Rect.unit off size inb).emb x := funext fun a => Fin.ext ((h a).trans (Rect.idx_unit_val off size inb x a).symm)
  rw [hi]; exact View.canon_cons_emb _ X L x

/-- Outside it: what the earlier stores left. -/
theorem canon_miss (X : (Rect.unit off size inb).shape.Idx → Elt Ideal e) (L : List (View.Piece (Elt Ideal) S e)) (i : S.Idx)
    (a : Fin S.rank) (h : (i a : ℕ) < off a ∨ off a + size a ≤ i a) :
    View.canon (⟨Rect.unit off size inb, X⟩ :: L) i = View.canon L i := by
  refine View.canon_cons_of_not_mem ⟨_, X⟩ L fun hm => ?_
  have := (Rect.mem_set_unit (inb := inb).mp hm) a
  omega

/-- A load through a rectangle, at an index. -/
theorem readCov_at {sig : RefSig} {κ : Kind} {sp : Space} (v : View sig κ sp S e) (L : List (View.Piece (Elt Ideal) S e))
    (x : (Rect.unit off size inb).shape.Idx) (i : S.Idx) (h : ∀ a, (i a : ℕ) = off a + x a) :
    v.readCov L (Rect.unit off size inb).toLoadRect x = View.canon L i := by
  rw [View.readCov_eq_canon']
  exact congrArg (View.canon L) (funext fun a => Fin.ext ((Rect.idx_unit_val off size inb x a).trans (h a).symm))

end

/-! ## The two heads' maxima and accumulators -/

/-- Head `e`'s maxima and accumulators are those of the first `n q` blocks, for each query `q`. -/
def Head (e : Fin 2) (S : Fin 1024 → ℕ → Fin 512 → EReal) (W : Fin 144 → ℕ → Fin 512 → EReal) (n : Fin 1024 → ℕ)
    (m : S2x1x1024.Idx → EReal) (a : S2x144x1024.Idx → EReal) : Prop :=
  ∀ q, m (ix3 e 0 q) = runM (S q) (n q) ∧ ∀ r, a (ix3 e r q) = runA (S q) (W r) (n q)

section
variable {S : Fin 1024 → ℕ → Fin 512 → EReal} {W : Fin 144 → ℕ → Fin 512 → EReal}
variable {LM : List (View.Piece (Elt Ideal) S2x1x1024 .f32)} {LA : List (View.Piece (Elt Ideal) S2x144x1024 .f32)}
variable {vM : View sig .tc .vmem S2x1x1024 .f32} {vA : View sig .tc .vmem S2x144x1024 .f32}

/-- A head is not touched by the other head's stores. -/
theorem Head.other {e : Fin 2} {n : Fin 1024 → ℕ} (h : Head e S W n (View.canon LM) (View.canon LA)) (d o : ℕ) (hd : d ≠ e.val) (cM cA : ℕ)
    (inbM : ∀ a, ![d, 0, o] a + ![1, 1, cM] a ≤ S2x1x1024.size a) (inbA : ∀ a, ![d, 0, o] a + ![1, 144, cA] a ≤ S2x144x1024.size a)
    (X : (Rect.unit (s := S2x1x1024) ![d, 0, o] ![1, 1, cM] inbM).shape.Idx → Elt Ideal .f32)
    (Y : (Rect.unit (s := S2x144x1024) ![d, 0, o] ![1, 144, cA] inbA).shape.Idx → Elt Ideal .f32) :
    Head e S W n (View.canon (⟨Rect.unit ![d, 0, o] ![1, 1, cM] inbM, X⟩ :: LM)) (View.canon (⟨Rect.unit ![d, 0, o] ![1, 144, cA] inbA, Y⟩ :: LA)) := by
  intro q
  refine ⟨?_, fun r => ?_⟩
  · rw [canon_miss (S := S2x1x1024) _ _ _ _ _ _ (0 : Fin 3) (by show (e : ℕ) < d ∨ d + 1 ≤ (e : ℕ); omega)]; exact (h q).1
  · rw [canon_miss (S := S2x144x1024) _ _ _ _ _ _ (0 : Fin 3) (by show (e : ℕ) < d ∨ d + 1 ≤ (e : ℕ); omega)]; exact (h q).2 r

/-- A head after a block of keys that all its queries see. -/
theorem Head.full {e : Fin 2} (b : ℕ) (h : Head e S W (fun _ => b) (View.canon LM) (View.canon LA)) (d : ℕ) (hd : d = e.val)
    (inbM : ∀ a, ![d, 0, 0] a + S1x1x1024.size a ≤ S2x1x1024.size a) (inbA : ∀ a, ![d, 0, 0] a + S1x144x1024.size a ≤ S2x144x1024.size a)
    (v : FVec Ideal S144x512 .bf16) (s : FVec Ideal S512x1024 .f32)
    (hv : ∀ r k, v (ix2 r k) = W r b k) (hs : ∀ q k, s (ix2 k q) = S q b k) :
    Head e S W (fun _ => b + 1)
      (View.canon (⟨Rect.unit (s := S2x1x1024) ![d, 0, 0] S1x1x1024.size inbM, storeMax (newMax s (vM.readCov LM (Rect.unit (s := S2x1x1024) ![d, 0, 0] S1x1x1024.size inbM).toLoadRect))⟩ :: LM))
      (View.canon (⟨Rect.unit (s := S2x144x1024) ![d, 0, 0] S1x144x1024.size inbA, newAcc v s (vM.readCov LM (Rect.unit (s := S2x1x1024) ![d, 0, 0] S1x1x1024.size inbM).toLoadRect)
        (vA.readCov LA (Rect.unit (s := S2x144x1024) ![d, 0, 0] S1x144x1024.size inbA).toLoadRect)⟩ :: LA)) := by
  subst hd
  intro q
  have hm : vM.readCov LM (Rect.unit (s := S2x1x1024) ![e.val, 0, 0] S1x1x1024.size inbM).toLoadRect (ix3 0 0 q) = runM (S q) b :=
    (readCov_at (S := S2x1x1024) _ _ inbM vM LM (ix3 0 0 q) (ix3 e 0 q) (by intro a; fin_cases a <;> simp)).trans (h q).1
  refine ⟨?_, fun r => ?_⟩
  · rw [canon_hit (S := S2x1x1024) _ _ inbM _ LM (ix3 e 0 q) (ix3 0 0 q) (by intro a; fin_cases a <;> simp)]
    rw [storeMax_newMax, hm]
    simp only [hs]; rfl
  · have ha : vA.readCov LA (Rect.unit (s := S2x144x1024) ![e.val, 0, 0] S1x144x1024.size inbA).toLoadRect (ix3 0 r q) = runA (S q) (W r) b :=
      (readCov_at (S := S2x144x1024) _ _ inbA vA LA (ix3 0 r q) (ix3 e r q) (by intro a; fin_cases a <;> simp)).trans ((h q).2 r)
    rw [canon_hit (S := S2x144x1024) _ _ inbA _ LA (ix3 e r q) (ix3 0 r q) (by intro a; fin_cases a <;> simp)]
    rw [newAcc_apply, hm, ha]
    simp only [hs, hv]; rfl

theorem later_lt (q : Fin 512) : 512 + q.val < 1024 := by omega

theorem later (q : Fin 1024) (h : ¬ q.val < 512) : ∃ q' : Fin 512, q = ⟨512 + q'.val, later_lt q'⟩ :=
  ⟨⟨q.val - 512, by omega⟩, Fin.ext (by simp; omega)⟩

/-- A head after the block of keys that only the later half of its queries sees. -/
theorem Head.late {e : Fin 2} (b : ℕ) (h : Head e S W (fun _ => b) (View.canon LM) (View.canon LA)) (d : ℕ) (hd : d = e.val)
    (inbM : ∀ a, ![d, 0, 512] a + S1x1x512.size a ≤ S2x1x1024.size a) (inbA : ∀ a, ![d, 0, 512] a + S1x144x512.size a ≤ S2x144x1024.size a)
    (v : FVec Ideal S144x512 .bf16) (s : FVec Ideal S512x512 .f32)
    (hv : ∀ r k, v (ix2 r k) = W r b k) (hs : ∀ (q : Fin 512) k, s (ix2 k q) = S ⟨512 + q.val, by omega⟩ b k) :
    Head e S W (fun q => if q.val < 512 then b else b + 1)
      (View.canon (⟨Rect.unit (s := S2x1x1024) ![d, 0, 512] S1x1x512.size inbM, storeMaxLate (newMaxLate s (vM.readCov LM (Rect.unit (s := S2x1x1024) ![d, 0, 512] S1x1x512.size inbM).toLoadRect))⟩ :: LM))
      (View.canon (⟨Rect.unit (s := S2x144x1024) ![d, 0, 512] S1x144x512.size inbA, newAccLate v s (vM.readCov LM (Rect.unit (s := S2x1x1024) ![d, 0, 512] S1x1x512.size inbM).toLoadRect)
        (vA.readCov LA (Rect.unit (s := S2x144x1024) ![d, 0, 512] S1x144x512.size inbA).toLoadRect)⟩ :: LA)) := by
  subst hd
  intro q
  by_cases hq : q.val < 512
  · simp only [if_pos hq]
    refine ⟨?_, fun r => ?_⟩
    · rw [canon_miss (S := S2x1x1024) _ _ _ _ _ _ (2 : Fin 3) (Or.inl hq)]; exact (h q).1
    · rw [canon_miss (S := S2x144x1024) _ _ _ _ _ _ (2 : Fin 3) (Or.inl hq)]; exact (h q).2 r
  · simp only [if_neg hq]
    obtain ⟨q', rfl⟩ := later q hq
    have hm : vM.readCov LM (Rect.unit (s := S2x1x1024) ![e.val, 0, 512] S1x1x512.size inbM).toLoadRect (ix3 0 0 q') = runM (S ⟨512 + q'.val, by omega⟩) b :=
      (readCov_at (S := S2x1x1024) _ _ inbM vM LM (ix3 0 0 q') (ix3 e 0 ⟨512 + q'.val, by omega⟩) (by intro a; fin_cases a <;> simp)).trans (h _).1
    refine ⟨?_, fun r => ?_⟩
    · rw [canon_hit (S := S2x1x1024) _ _ inbM _ LM (ix3 e 0 ⟨512 + q'.val, by omega⟩) (ix3 0 0 q') (by intro a; fin_cases a <;> simp)]
      rw [storeMax_newMaxLate, hm]
      simp only [hs]; rfl
    · have ha : vA.readCov LA (Rect.unit (s := S2x144x1024) ![e.val, 0, 512] S1x144x512.size inbA).toLoadRect (ix3 0 r q') = runA (S ⟨512 + q'.val, by omega⟩) (W r) b :=
        (readCov_at (S := S2x144x1024) _ _ inbA vA LA (ix3 0 r q') (ix3 e r ⟨512 + q'.val, by omega⟩) (by intro a; fin_cases a <;> simp)).trans ((h _).2 r)
      rw [canon_hit (S := S2x144x1024) _ _ inbA _ LA (ix3 e r ⟨512 + q'.val, by omega⟩) (ix3 0 r q') (by intro a; fin_cases a <;> simp)]
      rw [newAccLate_apply, hm, ha]
      simp only [hs, hv]; rfl

end

end Cert.KernelIdeal.Block

end
-- ==== Proof.Words.lean ====
/- The vectors that the attention kernel's body builds from its blocks before the loop over keys: the queries with their bias
   lanes for each head of the pair, a block of scores (all seen, on the diagonal, and for the later half), and a block of
   values above the rows of ones; each read at an index. -/
module

public import proofs.«01_k».proof.Proof.Step

@[expose] public section

set_option maxRecDepth 16384

noncomputable section

namespace Cert.KernelIdeal.Block

open Cert.KernelIdeal Cert.KernelIdeal.Gen Idealize.ShloMosaic Idealize.SL.Sem Cert.Row

theorem mask_bot : (Named.named (F := Ideal) (φ := .f32) κ "mask" 0xF149F2CA#32) = (⊥ : EReal) := rfl

/-! ## The blocks -/

variable (x0 : Vec Ideal S1x1024x128 .bf16) (x1 : Vec Ideal S1x1x1024x128 .bf16) (x2 x3 : Vec Ideal S1x1x4096x128 .bf16)
variable (x4 : Vec Ideal S8x128x512 .bf16)

/-- Lane `l` of query `q` of head `e`: its own features, then the bias lanes of that head. -/
def qLane (e : ℕ) (q : Fin 1024) (l : Fin 256) : EReal :=
  if h : l.val < 128 then (if l.val / 64 = e then x0 (ix3 0 q ⟨l.val, h⟩) else 0)
  else (if 6 * e ≤ l.val - 128 ∧ l.val - 128 < 6 * e + 6 then x1 (ix4 0 0 q ⟨l.val - 128, by omega⟩) else 0)

/-- Lane `l` of key `k`. -/
def kLane (k : Fin 4096) (l : Fin 256) : EReal :=
  if h : l.val < 128 then x2 (ix4 0 0 k ⟨l.val, h⟩) else x3 (ix4 0 0 k ⟨l.val - 128, by omega⟩)

/-- The logit (in bits) of a query and a key. -/
def sigma (e : ℕ) (q : Fin 1024) (k : Fin 4096) : EReal := ∑ l : Fin 256, kLane x2 x3 k l * qLane x0 x1 e q l

/-- Position `k` of block `b`. -/
def pos (b : ℕ) (k : Fin 512) : Fin 4096 := ⟨(512 * b + k.val) % 4096, Nat.mod_lt _ (by norm_num)⟩

theorem pos_eq {b : ℕ} (hb : b < 8) (k : Fin 512) : pos b k = ⟨512 * b + k.val, by omega⟩ := Fin.ext (Nat.mod_eq_of_lt (by omega))

/-- The scores of query `q` of query block `i`: none from a later position. -/
def score (i e : ℕ) (q : Fin 1024) (b : ℕ) (k : Fin 512) : EReal :=
  if 512 * b + k.val ≤ 1024 * i + q.val then sigma x0 x1 x2 x3 e q (pos b k) else ⊥

/-- The values and, below them, ones. -/
def value (r : Fin 144) (b : ℕ) (k : Fin 512) : EReal :=
  if h : r.val < 128 then x4 (ix3 ⟨b % 8, Nat.mod_lt _ (by norm_num)⟩ ⟨r.val, h⟩ k) else 1

/-! ## The vectors -/

theorem head0_bit : ∀ l : Fin 128, IntOp.cmpi .eq (IntOp.shrsi .vector (BitVec.ofNat 32 l.val) 6#32) 0#32 = 1 ↔ l.val / 64 = 0 := by decide

theorem head1_bit : ∀ l : Fin 128, IntOp.cmpi .eq (IntOp.shrsi .vector (BitVec.ofNat 32 l.val) 6#32) 1#32 = 1 ↔ l.val / 64 = 1 := by decide

theorem bias0_bit : ∀ l : Fin 128, IntOp.andi (IntOp.cmpi .sge (BitVec.ofNat 32 l.val) 0#32) (IntOp.cmpi .slt (BitVec.ofNat 32 l.val) 6#32) = 1
    ↔ 6 * 0 ≤ l.val ∧ l.val < 6 * 0 + 6 := by decide

theorem bias1_bit : ∀ l : Fin 128, IntOp.andi (IntOp.cmpi .sge (BitVec.ofNat 32 l.val) 6#32) (IntOp.cmpi .slt (BitVec.ofNat 32 l.val) 12#32) = 1
    ↔ 6 * 1 ≤ l.val ∧ l.val < 6 * 1 + 6 := by decide

theorem tri_bit (k q : Fin 512) : IntOp.cmpi .sle (BitVec.ofNat 32 k.val) (BitVec.ofNat 32 q.val) = 1 ↔ k.val ≤ q.val := by
  rw [WordCmp.cmpi_sle_ofNat (by omega) (by omega)]
  by_cases h : k.val ≤ q.val <;> simp [h]

/-- The queries of head 0 with their bias lanes, at an index. -/
theorem q0_apply (q : Fin 1024) (l : Fin 256) : k0_pay275 x0 x1 (ix2 q l) = qLane x0 x1 0 q l := by
  pointwise [k0_pay275, k0_pay272, k0_pay273, k0_pay274]
  unfold qLane Scalar.select
  by_cases h : l.val < 128
  · rw [dif_pos h, dif_pos h]; exact if_congr (head0_bit ⟨l.val, h⟩) rfl rfl
  · rw [dif_neg h, dif_neg h]; exact if_congr (bias0_bit ⟨l.val - 128, by omega⟩) rfl rfl

/-- The queries of head 1. -/
theorem q1_apply (q : Fin 1024) (l : Fin 256) : k0_pay276 x0 x1 (ix2 q l) = qLane x0 x1 1 q l := by
  pointwise [k0_pay276, k0_pay272, k0_pay273, k0_pay274]
  unfold qLane Scalar.select
  by_cases h : l.val < 128
  · rw [dif_pos h, dif_pos h]; exact if_congr (head1_bit ⟨l.val, h⟩) rfl rfl
  · rw [dif_neg h, dif_neg h]; exact if_congr (bias1_bit ⟨l.val - 128, by omega⟩) rfl rfl

/-- A block of keys with their bias lanes. -/
def kBlock (kr kbr : Vec Ideal S1x1x512x128 .bf16) : FVec Ideal S512x256 .bf16 :=
  concatenate S512x256 1 [⟨S512x128, shapeCast S512x128 kr shapeCasts_S1x1x512x128_S512x128⟩, ⟨S512x128, shapeCast S512x128 kbr shapeCasts_S1x1x512x128_S512x128⟩] concatenates_S512x128_S512x128_S512x256_d1

/-- The scores of a block of keys. -/
def full (qa : FVec Ideal S1024x256 .bf16) (kr kbr : Vec Ideal S1x1x512x128 .bf16) : FVec Ideal S512x1024 .f32 :=
  matmul dot_S512x256_S1024x256_S512x1024_1_1_0_0_n_n none (kBlock kr kbr) qa (constant S512x1024 .f32 0x00000000#32)

/-- The mask within the diagonal block. -/
def tri : FVec Ideal S512x512 .f32 := k0_pay248

/-- The scores of the diagonal block: the early half of the queries masked. -/
def diag (qa : FVec Ideal S1024x256 .bf16) (kr kbr : Vec Ideal S1x1x512x128 .bf16) : FVec Ideal S512x1024 .f32 :=
  concatenate S512x1024 1
    [⟨S512x512, addf (extractStridedSlice S512x512 ![0, 0] (full qa kr kbr) slices_S512x1024_o0_0_S512x512) tri⟩,
     ⟨S512x512, extractStridedSlice S512x512 ![0, 512] (full qa kr kbr) slices_S512x1024_o0_512_S512x512⟩] concatenates_S512x512_S512x512_S512x1024_d1

/-- The scores of the next block for the later half of the queries, masked. -/
def lateScores (qa : FVec Ideal S1024x256 .bf16) (kr kbr : Vec Ideal S1x1x512x128 .bf16) : FVec Ideal S512x512 .f32 :=
  addf (matmul dot_S512x256_S512x256_S512x512_1_1_0_0_n_n none (kBlock kr kbr)
    (extractStridedSlice S512x256 ![512, 0] qa slices_S1024x256_o512_0_S512x256) (constant S512x512 .f32 0x00000000#32)) tri

/-- A block of values above the ones. -/
def vBlock (vr : Vec Ideal S1x128x512 .bf16) : FVec Ideal S144x512 .bf16 :=
  concatenate S144x512 0 [⟨S128x512, shapeCast S128x512 vr shapeCasts_S1x128x512_S128x512⟩, ⟨S16x512, broadcast S16x512 (Scalar.ofBits .bf16 0x3F80#16)⟩] concatenates_S128x512_S16x512_S144x512_d0

theorem full_apply (qa : FVec Ideal S1024x256 .bf16) (kr kbr : Vec Ideal S1x1x512x128 .bf16) (k : Fin 512) (q : Fin 1024) :
    full qa kr kbr (ix2 k q) = ∑ l : Fin 256, (if h : l.val < 128 then kr (ix4 0 0 k ⟨l.val, h⟩) else kbr (ix4 0 0 k ⟨l.val - 128, by omega⟩)) * qa (ix2 q l) := by
  pointwise [full, kBlock]

theorem tri_apply (k q : Fin 512) : tri (ix2 k q) = if k.val ≤ q.val then 0 else ⊥ := by
  pointwise [tri, k0_pay248]
  rw [mask_bot]
  exact if_congr (tri_bit k q) rfl rfl

theorem diag_apply (qa : FVec Ideal S1024x256 .bf16) (kr kbr : Vec Ideal S1x1x512x128 .bf16) (k : Fin 512) (q : Fin 1024) :
    diag qa kr kbr (ix2 k q) = if k.val ≤ q.val then full qa kr kbr (ix2 k q) else ⊥ := by
  pointwise [diag]
  by_cases h : q.val < 512
  · rw [dif_pos h, tri_apply]
    by_cases hk : k.val ≤ q.val <;> simp [hk]
  · rw [dif_neg h]
    refine Eq.trans ?_ (if_pos (by omega)).symm
    exact congrArg (fun x => full qa kr kbr (ix2 k x)) (Fin.ext (by simp; omega))

theorem late_apply (qa : FVec Ideal S1024x256 .bf16) (kr kbr : Vec Ideal S1x1x512x128 .bf16) (k : Fin 512) (q : Fin 512) :
    lateScores qa kr kbr (ix2 k q) = if k.val ≤ q.val then full qa kr kbr (ix2 k ⟨512 + q.val, by omega⟩) else ⊥ := by
  pointwise [lateScores]
  have hf : full qa kr kbr (ix2 k ⟨512 + q.val, by omega⟩) = ∑ x, kBlock kr kbr (ix2 k x) * qa (ix2 ⟨512 + q.val, by omega⟩ x) := by pointwise [full]
  rw [tri_apply, hf]
  by_cases hk : k.val ≤ q.val <;> simp [hk]

theorem vBlock_apply (vr : Vec Ideal S1x128x512 .bf16) (r : Fin 144) (k : Fin 512) :
    vBlock vr (ix2 r k) = if h : r.val < 128 then vr (ix3 0 ⟨r.val, h⟩ k) else 1 := by
  pointwise [vBlock]

/-- What is stored: each head's accumulator over its sum, times the gate. -/
theorem final_apply (a0 : Vec Ideal S1x128x1024 .f32) (l0 : Vec Ideal S1x1x1024 .f32) (a1 : Vec Ideal S1x128x1024 .f32) (l1 : Vec Ideal S1x1x1024 .f32)
    (g : Vec Ideal S1x1024x128 .bf16) (q : Fin 1024) (f : Fin 128) :
    k0_pay1 (k0_pay292 a0 l0 a1 l1 g) (ix3 0 q f) =
      (if f.val / 64 = 0 then a0 (ix3 0 f q) * Ideal.div 1 (l0 (ix3 0 0 q)) else a1 (ix3 0 f q) * Ideal.div 1 (l1 (ix3 0 0 q))) * g (ix3 0 q f) := by
  pointwise [k0_pay1, k0_pay292]
  exact congrArg (· * g (ix3 0 q f)) (if_congr (head0_bit f) rfl rfl)

/-! ## The vectors as the program's data -/

/-- A load from a whole buffer, at an index. -/
theorem readAt_at {S : Shape} {e : EltTy} {κ : Kind} {sp : Space} (v : Memref sig κ sp S e) (hv : v.IsWhole) (x : S.Idx → Elt Ideal e)
    (off size : Fin S.rank → ℕ) (inb : ∀ a, off a + size a ≤ S.size a) (j : (Rect.unit off size inb).shape.Idx) (i : S.Idx)
    (h : ∀ a, (i a : ℕ) = off a + j a) :
    v.view.readAt (Elt Ideal) (Rect.unit off size inb).toLoadRect (hv.unread x) j = x i := by
  rw [View.readAt_apply, hv.read_unread]
  exact congrArg x (funext fun a => Fin.ext ((Rect.idx_unit_val off size inb j a).trans (h a).symm))

variable {x0 x1 x2 x3 x4}

/-- A block of scores is the logits of its keys. -/
theorem full_score {e b : ℕ} (hb : b < 8) {qa : FVec Ideal S1024x256 .bf16} {kr kbr : Vec Ideal S1x1x512x128 .bf16}
    (hq : ∀ q l, qa (ix2 q l) = qLane x0 x1 e q l) (hk : ∀ k l, kr (ix4 0 0 k l) = x2 (ix4 0 0 ⟨512 * b + k.val, by omega⟩ l))
    (hkb : ∀ k l, kbr (ix4 0 0 k l) = x3 (ix4 0 0 ⟨512 * b + k.val, by omega⟩ l)) (k : Fin 512) (q : Fin 1024) :
    full qa kr kbr (ix2 k q) = sigma x0 x1 x2 x3 e q (pos b k) := by
  rw [full_apply, pos_eq hb]
  simp only [hq, hk, hkb]; rfl

/-- A block of keys before the queries' block. -/
theorem full_block {i e b : ℕ} (hb : b < 8) (hi : b < 2 * i) {qa : FVec Ideal S1024x256 .bf16} {kr kbr : Vec Ideal S1x1x512x128 .bf16}
    (hq : ∀ q l, qa (ix2 q l) = qLane x0 x1 e q l) (hk : ∀ k l, kr (ix4 0 0 k l) = x2 (ix4 0 0 ⟨512 * b + k.val, by omega⟩ l))
    (hkb : ∀ k l, kbr (ix4 0 0 k l) = x3 (ix4 0 0 ⟨512 * b + k.val, by omega⟩ l)) {s : FVec Ideal S512x1024 .f32}
    (hs : s = full qa kr kbr) (q : Fin 1024) (k : Fin 512) :
    s (ix2 k q) = score x0 x1 x2 x3 i e q b k := by
  rw [hs, full_score hb hq hk hkb, score, if_pos (by omega)]

/-- The block on the diagonal. -/
theorem diag_block {i e b : ℕ} (hb : b < 8) (hi : b = 2 * i) {qa : FVec Ideal S1024x256 .bf16} {kr kbr : Vec Ideal S1x1x512x128 .bf16}
    (hq : ∀ q l, qa (ix2 q l) = qLane x0 x1 e q l) (hk : ∀ k l, kr (ix4 0 0 k l) = x2 (ix4 0 0 ⟨512 * b + k.val, by omega⟩ l))
    (hkb : ∀ k l, kbr (ix4 0 0 k l) = x3 (ix4 0 0 ⟨512 * b + k.val, by omega⟩ l)) {s : FVec Ideal S512x1024 .f32}
    (hs : s = diag qa kr kbr) (q : Fin 1024) (k : Fin 512) :
    s (ix2 k q) = score x0 x1 x2 x3 i e q b k := by
  rw [hs, diag_apply, full_score hb hq hk hkb, score]
  exact if_congr (by omega) rfl rfl

/-- The block that the later half of the queries sees. -/
theorem late_block {i e b : ℕ} (hb : b < 8) (hi : b = 2 * i + 1) {qa : FVec Ideal S1024x256 .bf16} {kr kbr : Vec Ideal S1x1x512x128 .bf16}
    (hq : ∀ q l, qa (ix2 q l) = qLane x0 x1 e q l) (hk : ∀ k l, kr (ix4 0 0 k l) = x2 (ix4 0 0 ⟨512 * b + k.val, by omega⟩ l))
    (hkb : ∀ k l, kbr (ix4 0 0 k l) = x3 (ix4 0 0 ⟨512 * b + k.val, by omega⟩ l)) {s : FVec Ideal S512x512 .f32}
    (hs : s = lateScores qa kr kbr) (q : Fin 512) (k : Fin 512) :
    s (ix2 k q) = score x0 x1 x2 x3 i e ⟨512 + q.val, by omega⟩ b k := by
  rw [hs, late_apply, full_score hb hq hk hkb, score]
  exact if_congr (by show k.val ≤ q.val ↔ 512 * b + k.val ≤ 1024 * i + (512 + q.val); omega) rfl rfl

/-- A block of values. -/
theorem v_block {b : ℕ} (hb : b < 8) {vr : Vec Ideal S1x128x512 .bf16} (hv : ∀ r k, vr (ix3 0 r k) = x4 (ix3 ⟨b, hb⟩ r k)) {v : FVec Ideal S144x512 .bf16}
    (hs : v = vBlock vr) (r : Fin 144) (k : Fin 512) :
    v (ix2 r k) = value x4 r b k := by
  rw [hs, vBlock_apply]; unfold value
  simp only [hv, Nat.mod_eq_of_lt hb]

/-! ## The whole loop over keys -/

/-- Head `e`'s accumulators after all the blocks. -/
def Acc (e : Fin 2) (S : Fin 1024 → ℕ → Fin 512 → EReal) (W : Fin 144 → ℕ → Fin 512 → EReal) (n : Fin 1024 → ℕ) (a : S2x144x1024.Idx → EReal) : Prop :=
  ∀ q r, a (ix3 e r q) = runA (S q) (W r) (n q)

theorem Head.acc {e : Fin 2} {S W n m a} (h : Head e S W n m a) : Acc e S W n a := fun q r => (h q).2 r

section
variable {S : Fin 1024 → ℕ → Fin 512 → EReal} {W : Fin 144 → ℕ → Fin 512 → EReal}
variable {LM : List (View.Piece (Elt Ideal) S2x1x1024 .f32)} {LA : List (View.Piece (Elt Ideal) S2x144x1024 .f32)}
variable {vM : View sig .tc .vmem S2x1x1024 .f32} {vA : View sig .tc .vmem S2x144x1024 .f32}

/-- The other head's last store. -/
theorem Acc.other {e : Fin 2} {n : Fin 1024 → ℕ} (h : Acc e S W n (View.canon LA)) (d o : ℕ) (hd : d ≠ e.val)
    (size : Fin 3 → ℕ) (h1 : size 0 = 1) (inbA : ∀ a, ![d, 0, o] a + size a ≤ S2x144x1024.size a)
    (Y : (Rect.unit (s := S2x144x1024) ![d, 0, o] size inbA).shape.Idx → Elt Ideal .f32) :
    Acc e S W n (View.canon (⟨Rect.unit ![d, 0, o] size inbA, Y⟩ :: LA)) := by
  intro q r
  rw [canon_miss (S := S2x144x1024) _ _ _ _ _ _ (0 : Fin 3) (by show (e : ℕ) < d ∨ d + size 0 ≤ (e : ℕ); omega)]; exact h q r

/-- A head's last accumulators. -/
theorem Head.late_acc {e : Fin 2} (b : ℕ) (h : Head e S W (fun _ => b) (View.canon LM) (View.canon LA)) (d : ℕ) (hd : d = e.val)
    (inbM : ∀ a, ![d, 0, 512] a + S1x1x512.size a ≤ S2x1x1024.size a) (inbA : ∀ a, ![d, 0, 512] a + S1x144x512.size a ≤ S2x144x1024.size a)
    (v : FVec Ideal S144x512 .bf16) (s : FVec Ideal S512x512 .f32)
    (hv : ∀ r k, v (ix2 r k) = W r b k) (hs : ∀ (q : Fin 512) k, s (ix2 k q) = S ⟨512 + q.val, by omega⟩ b k) :
    Acc e S W (fun q => if q.val < 512 then b else b + 1)
      (View.canon (⟨Rect.unit (s := S2x144x1024) ![d, 0, 512] S1x144x512.size inbA, newAccLate v s (vM.readCov LM (Rect.unit (s := S2x1x1024) ![d, 0, 512] S1x1x512.size inbM).toLoadRect)
        (vA.readCov LA (Rect.unit (s := S2x144x1024) ![d, 0, 512] S1x144x512.size inbA).toLoadRect)⟩ :: LA)) :=
  (Head.late b h d hd inbM inbA v s hv hs).acc

end

/-- Before the first block. -/
theorem head_init (e : Fin 2) (S W) (inbM : ∀ a, ![0, 0, 0] a + S2x1x1024.size a ≤ S2x1x1024.size a) (inbA : ∀ a, ![0, 0, 0] a + S2x144x1024.size a ≤ S2x144x1024.size a) :
    Head e S W (fun _ => 0) (View.canon (Val := Elt Ideal) (e := .f32) [⟨Rect.unit (s := S2x1x1024) ![0, 0, 0] S2x1x1024.size inbM, k0_pay277 (F := Ideal)⟩])
      (View.canon (Val := Elt Ideal) (e := .f32) [⟨Rect.unit (s := S2x144x1024) ![0, 0, 0] S2x144x1024.size inbA, k0_pay279 (F := Ideal) k0_pay278⟩]) := by
  intro q
  refine ⟨?_, fun r => ?_⟩
  · refine (canon_hit (S := S2x1x1024) (e := .f32) ![0, 0, 0] S2x1x1024.size inbM (k0_pay277 (F := Ideal)) [] (ix3 e 0 q) (ix3 e 0 q) (by intro a; fin_cases a <;> simp)).trans ?_
    pointwise [k0_pay277]; exact mask_bot
  · refine (canon_hit (S := S2x144x1024) (e := .f32) ![0, 0, 0] S2x144x1024.size inbA (k0_pay279 (F := Ideal) k0_pay278) [] (ix3 e r q) (ix3 e r q) (by intro a; fin_cases a <;> simp)).trans ?_
    pointwise [k0_pay279, k0_pay278]; rfl

/-- What is stored, from the two heads' accumulators. -/
theorem final_block {S0 S1 : Fin 1024 → ℕ → Fin 512 → EReal} {W : Fin 144 → ℕ → Fin 512 → EReal} {n : Fin 1024 → ℕ}
    {LA : List (View.Piece (Elt Ideal) S2x144x1024 .f32)} {vA : View sig .tc .vmem S2x144x1024 .f32}
    (h0 : Acc 0 S0 W n (View.canon LA)) (h1 : Acc 1 S1 W n (View.canon LA)) {g : Vec Ideal S1x1024x128 .bf16} {x5 : Vec Ideal S1x1024x128 .bf16}
    (hg : g = x5) (i0 i1 i2 i3) (q : Fin 1024) (f : Fin 128) :
    k0_pay1 (k0_pay292 (vA.readCov LA (Rect.unit (s := S2x144x1024) ![0, 0, 0] S1x128x1024.size i0).toLoadRect)
      (vA.readCov LA (Rect.unit (s := S2x144x1024) ![0, 128, 0] S1x1x1024.size i1).toLoadRect)
      (vA.readCov LA (Rect.unit (s := S2x144x1024) ![1, 0, 0] S1x128x1024.size i2).toLoadRect)
      (vA.readCov LA (Rect.unit (s := S2x144x1024) ![1, 128, 0] S1x1x1024.size i3).toLoadRect) g) (ix3 0 q f) =
      (if f.val / 64 = 0 then runA (S0 q) (W ⟨f.val, by omega⟩) (n q) * Ideal.div 1 (runA (S0 q) (W 128) (n q))
        else runA (S1 q) (W ⟨f.val, by omega⟩) (n q) * Ideal.div 1 (runA (S1 q) (W 128) (n q))) * x5 (ix3 0 q f) := by
  subst hg
  rw [final_apply,
    (readCov_at (S := S2x144x1024) _ _ i0 vA LA (ix3 0 f q) (ix3 0 ⟨f.val, by omega⟩ q) (by intro a; fin_cases a <;> simp)).trans (h0 q _),
    (readCov_at (S := S2x144x1024) _ _ i1 vA LA (ix3 0 0 q) (ix3 0 128 q) (by intro a; fin_cases a <;> simp)).trans (h0 q _),
    (readCov_at (S := S2x144x1024) _ _ i2 vA LA (ix3 0 f q) (ix3 1 ⟨f.val, by omega⟩ q) (by intro a; fin_cases a <;> simp)).trans (h1 q _),
    (readCov_at (S := S2x144x1024) _ _ i3 vA LA (ix3 0 0 q) (ix3 1 128 q) (by intro a; fin_cases a <;> simp)).trans (h1 q _)]

/-! ## The loads -/

theorem q0_read (arg3 : Memref sig .tc .vmem S1x1024x128 .bf16) (harg3 : arg3.IsWhole) (arg4 : Memref sig .tc .vmem S1x1x1024x128 .bf16) (harg4 : arg4.IsWhole)
    (x0 : Vec Ideal S1x1024x128 .bf16) (x1 : Vec Ideal S1x1x1024x128 .bf16) (i3 i4) (q : Fin 1024) (l : Fin 256) :
    k0_pay275 (arg3.view.readAt (Elt Ideal) (Rect.unit (s := S1x1024x128) ![0, 0, 0] S1x1024x128.size i3).toLoadRect (harg3.unread x0))
      (arg4.view.readAt (Elt Ideal) (Rect.unit (s := S1x1x1024x128) ![0, 0, 0, 0] S1x1x1024x128.size i4).toLoadRect (harg4.unread x1)) (ix2 q l) = qLane x0 x1 0 q l := by
  rw [funext fun j => readAt_at (S := S1x1024x128) arg3 harg3 x0 _ _ i3 j j (by intro a; fin_cases a <;> simp),
    funext fun j => readAt_at (S := S1x1x1024x128) arg4 harg4 x1 _ _ i4 j j (by intro a; fin_cases a <;> simp)]
  exact q0_apply x0 x1 q l

theorem q1_read (arg3 : Memref sig .tc .vmem S1x1024x128 .bf16) (harg3 : arg3.IsWhole) (arg4 : Memref sig .tc .vmem S1x1x1024x128 .bf16) (harg4 : arg4.IsWhole)
    (x0 : Vec Ideal S1x1024x128 .bf16) (x1 : Vec Ideal S1x1x1024x128 .bf16) (i3 i4) (q : Fin 1024) (l : Fin 256) :
    k0_pay276 (arg3.view.readAt (Elt Ideal) (Rect.unit (s := S1x1024x128) ![0, 0, 0] S1x1024x128.size i3).toLoadRect (harg3.unread x0))
      (arg4.view.readAt (Elt Ideal) (Rect.unit (s := S1x1x1024x128) ![0, 0, 0, 0] S1x1x1024x128.size i4).toLoadRect (harg4.unread x1)) (ix2 q l) = qLane x0 x1 1 q l := by
  rw [funext fun j => readAt_at (S := S1x1024x128) arg3 harg3 x0 _ _ i3 j j (by intro a; fin_cases a <;> simp),
    funext fun j => readAt_at (S := S1x1x1024x128) arg4 harg4 x1 _ _ i4 j j (by intro a; fin_cases a <;> simp)]
  exact q1_apply x0 x1 q l

theorem k_read (arg5 : Memref sig .tc .vmem S1x1x4096x128 .bf16) (harg5 : arg5.IsWhole) (x2 : Vec Ideal S1x1x4096x128 .bf16)
    (b : ℕ) (hb : b < 8) (inb) (k : Fin 512) (l : Fin 128) :
    arg5.view.readAt (Elt Ideal) (Rect.unit (s := S1x1x4096x128) ![0, 0, 512 * b, 0] S1x1x512x128.size inb).toLoadRect (harg5.unread x2) (ix4 0 0 k l)
      = x2 (ix4 0 0 ⟨512 * b + k.val, by omega⟩ l) :=
  readAt_at (S := S1x1x4096x128) arg5 harg5 x2 _ _ inb (ix4 0 0 k l) (ix4 0 0 ⟨512 * b + k.val, by omega⟩ l) (by intro a; fin_cases a <;> simp)

theorem v_read (arg7 : Memref sig .tc .vmem S8x128x512 .bf16) (harg7 : arg7.IsWhole) (x4 : Vec Ideal S8x128x512 .bf16)
    (b : ℕ) (hb : b < 8) (inb) (r : Fin 128) (k : Fin 512) :
    arg7.view.readAt (Elt Ideal) (Rect.unit (s := S8x128x512) ![b, 0, 0] S1x128x512.size inb).toLoadRect (harg7.unread x4) (ix3 0 r k)
      = x4 (ix3 ⟨b, hb⟩ r k) :=
  readAt_at (S := S8x128x512) arg7 harg7 x4 _ _ inb (ix3 0 r k) (ix3 ⟨b, hb⟩ r k) (by intro a; fin_cases a <;> simp)

theorem sg_read (arg8 : Memref sig .tc .vmem S1x1024x128 .bf16) (harg8 : arg8.IsWhole) (x5 : Vec Ideal S1x1024x128 .bf16) (inb) :
    arg8.view.readAt (Elt Ideal) (Rect.unit (s := S1x1024x128) ![0, 0, 0] S1x1024x128.size inb).toLoadRect (harg8.unread x5) = x5 :=
  funext fun j => readAt_at (S := S1x1024x128) arg8 harg8 x5 _ _ inb j j (by intro a; fin_cases a <;> simp)

/-- What the body stores for query block `i`, from its blocks. -/
def stored (x0 : Vec Ideal S1x1024x128 .bf16) (x1 : Vec Ideal S1x1x1024x128 .bf16) (x2 x3 : Vec Ideal S1x1x4096x128 .bf16) (x4 : Vec Ideal S8x128x512 .bf16)
    (x5 : Vec Ideal S1x1024x128 .bf16) (i : ℕ) (q : Fin 1024) (f : Fin 128) : EReal :=
  (if f.val / 64 = 0 then
      runA (score x0 x1 x2 x3 i 0 q) (value x4 ⟨f.val, by omega⟩) (if q.val < 512 then 2 * i + 1 else 2 * i + 2)
        * Ideal.div 1 (runA (score x0 x1 x2 x3 i 0 q) (value x4 128) (if q.val < 512 then 2 * i + 1 else 2 * i + 2))
    else runA (score x0 x1 x2 x3 i 1 q) (value x4 ⟨f.val, by omega⟩) (if q.val < 512 then 2 * i + 1 else 2 * i + 2)
        * Ideal.div 1 (runA (score x0 x1 x2 x3 i 1 q) (value x4 128) (if q.val < 512 then 2 * i + 1 else 2 * i + 2))) * x5 (ix3 0 q f)

end Cert.KernelIdeal.Block
-- ==== Proof.Logit.lean ====
/- The logit of a query and a key, out of the lanes that the attention kernel sums over: 64 lanes of a head's query and
   key, then six lanes that carry the cumulative log gates. -/
module

public import proofs.«01_k».proof.Proof.Words

@[expose] public section

set_option maxRecDepth 16384

noncomputable section

namespace Cert.Row

open Idealize.ShloMosaic

/-- A sum of finite extended reals is the sum of the reals. -/
theorem sum_coe {n : ℕ} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

/-- What a query's lane `l` of the pair's gates holds, from the pair's two cumulative gates. -/
def queryGate (g : ℕ → ℝ) (l : ℕ) : ℝ :=
  if l < 12 then if l % 6 < 3 then if l % 6 < 1 then g (l / 6) / Real.log 2 else 0 else 1 else 0

/-- What a key's lane `l` of the pair's gates holds. -/
def keyGate (g : ℕ → ℝ) (l : ℕ) : ℝ :=
  if l < 12 then if l % 6 < 3 then 1 else if l % 6 < 4 then -(g (l / 6) / Real.log 2) else 0 else 0

/-- The six lanes of head `e` add the query's gate and take away the key's. -/
theorem gates_sum (gq gk : ℕ → ℝ) (e : ℕ) (he : e < 2) :
    (∑ l : Fin 128, keyGate gk l.val * (if 6 * e ≤ l.val ∧ l.val < 6 * e + 6 then queryGate gq l.val else 0)) = (gq e - gk e) / Real.log 2 := by
  have h := Fin.sum_univ_eq_sum_range (fun l : ℕ => keyGate gk l * (if 6 * e ≤ l ∧ l < 6 * e + 6 then queryGate gq l else 0)) 128
  rw [h, ← Finset.sum_subset (s₁ := Finset.range 12) (by intro x hx; simp only [Finset.mem_range] at hx ⊢; omega)
    (by intro x _ hx; rw [if_neg (by simp only [Finset.mem_range] at hx; omega), mul_zero])]
  interval_cases e <;> simp [Finset.sum_range_succ, keyGate, queryGate] <;> ring

/-- The 64 lanes of head `e`. -/
theorem head_sum (f g : Fin 128 → ℝ) (e : ℕ) (he : e < 2) :
    (∑ l : Fin 128, f l * (if l.val / 64 = e then g l else 0)) = ∑ d : Fin 64, f ⟨64 * e + d.val, by omega⟩ * g ⟨64 * e + d.val, by omega⟩ := by
  rw [Fin.sum_univ_add (a := 64) (b := 64)]
  interval_cases e
  · rw [Finset.sum_eq_zero (s := Finset.univ) (f := fun i : Fin 64 => f (Fin.natAdd 64 i) * _), add_zero]
    · refine Finset.sum_congr rfl fun d _ => ?_
      rw [if_pos (by simp <;> omega)]
      congr 2 <;> (apply Fin.ext; simp)
    · intro d _; rw [if_neg (by simp <;> omega), mul_zero]
  · rw [Finset.sum_eq_zero (s := Finset.univ) (f := fun i : Fin 64 => f (Fin.castAdd 64 i) * _), zero_add]
    · refine Finset.sum_congr rfl fun d _ => ?_
      rw [if_pos (by simp <;> omega)]
      congr 2 <;> (apply Fin.ext; simp)
    · intro d _; rw [if_neg (by simp <;> omega), mul_zero]

/-- A natural number as a position. -/
def at4096 (n : ℕ) : Fin 4096 := ⟨n % 4096, Nat.mod_lt _ (by norm_num)⟩

theorem at4096_val (t : Fin 4096) : at4096 t.val = t := Fin.ext (Nat.mod_eq_of_lt t.isLt)

/-- The logit of query `t` and of the key at `n`, in head `h` of sequence `b`. -/
def logit (q k : Fin 8 → Fin 4096 → Fin 16 → Fin 64 → EReal) (c : Fin 8 → Fin 4096 → Fin 16 → EReal) (b : Fin 8) (h : Fin 16) (t : Fin 4096) (n : ℕ) : ℝ :=
  (∑ d : Fin 64, (q b t h d).toReal * (k b (at4096 n) h d).toReal) * (1 / 8) + (c b t h).toReal - (c b (at4096 n) h).toReal

/-- The attention's value at query `t`, head `h` and feature `d`, as the blockwise softmax of the values. -/
def attended (q k v : Fin 8 → Fin 4096 → Fin 16 → Fin 64 → EReal) (c : Fin 8 → Fin 4096 → Fin 16 → EReal) (b : Fin 8) (t : Fin 4096) (h : Fin 16) (d : Fin 64) : EReal :=
  runA (scores (logit q k c b h t) t.val) (fun b' k' => v b (at4096 (512 * b' + k'.val)) h d) (t.val / 512 + 1)
    * Ideal.div 1 (runA (scores (logit q k c b h t) t.val) (fun _ _ => 1) (t.val / 512 + 1))

/-- The layer's output: the attention's value times the sigmoid of the gate. -/
def gated (q k v : Fin 8 → Fin 4096 → Fin 16 → Fin 64 → EReal) (c : Fin 8 → Fin 4096 → Fin 16 → EReal) (g : Fin 8 → Fin 4096 → Fin 1024 → EReal)
    (b : Fin 8) (t : Fin 4096) (f : Fin 1024) : EReal :=
  attended q k v c b t ⟨f.val / 64, by omega⟩ ⟨f.val % 64, by omega⟩ * Ideal.div 1 (1 + Ideal.exp (-g b t f))

/-- Every number of an array of four axes is finite. -/
def Finite4 (q : Fin 8 → Fin 4096 → Fin 16 → Fin 64 → EReal) : Prop := ∀ b t h d, q b t h d = ((q b t h d).toReal : EReal)

/-- Every number of an array of three axes is finite. -/
def Finite3 (q : Fin 8 → Fin 4096 → Fin 16 → EReal) : Prop := ∀ b t h, q b t h = ((q b t h).toReal : EReal)

end Cert.Row

namespace Cert.KernelIdeal.Block

open Cert.KernelIdeal Cert.KernelIdeal.Gen Idealize.ShloMosaic Cert.Row

/-- The kernel's sum over 256 lanes is the logit, in bits. -/
theorem sigma_eq {x0 : Vec Ideal S1x1024x128 .bf16} {x1 : Vec Ideal S1x1x1024x128 .bf16} {x2 x3 : Vec Ideal S1x1x4096x128 .bf16}
    (qr : Fin 128 → ℝ) (kr : Fin 128 → ℝ) (gq gk : ℕ → ℝ) (e : ℕ) (he : e < 2) (q : Fin 1024) (k : Fin 4096)
    (h0 : ∀ l, x0 (ix3 0 q l) = ((qr l * (1 / 8 * (1 / Real.log 2)) : ℝ) : EReal)) (h1 : ∀ l : Fin 128, x1 (ix4 0 0 q l) = ((queryGate gq l.val : ℝ) : EReal))
    (h2 : ∀ l, x2 (ix4 0 0 k l) = ((kr l : ℝ) : EReal)) (h3 : ∀ l : Fin 128, x3 (ix4 0 0 k l) = ((keyGate gk l.val : ℝ) : EReal)) :
    sigma x0 x1 x2 x3 e q k =
      ((((∑ d : Fin 64, qr ⟨64 * e + d.val, by omega⟩ * kr ⟨64 * e + d.val, by omega⟩) * (1 / 8) + gq e - gk e) / Real.log 2 : ℝ) : EReal) := by
  unfold sigma
  rw [Fin.sum_univ_add (a := 128) (b := 128)]
  have ha : ∀ l : Fin 128, kLane x2 x3 k (Fin.castAdd 128 l) * qLane x0 x1 e q (Fin.castAdd 128 l)
      = ((kr l * (if l.val / 64 = e then qr l * (1 / 8 * (1 / Real.log 2)) else 0) : ℝ) : EReal) := by
    intro l
    have hl : (Fin.castAdd 128 l).val < 128 := l.isLt
    rw [kLane, qLane, dif_pos hl, dif_pos hl]
    rw [show (⟨(Fin.castAdd 128 l).val, hl⟩ : Fin 128) = l from rfl, h2, h0]
    show _ * (if l.val / 64 = e then _ else _) = _
    split
    · rw [← EReal.coe_mul]
    · simp
  have hb : ∀ l : Fin 128, kLane x2 x3 k (Fin.natAdd 128 l) * qLane x0 x1 e q (Fin.natAdd 128 l)
      = ((keyGate gk l.val * (if 6 * e ≤ l.val ∧ l.val < 6 * e + 6 then queryGate gq l.val else 0) : ℝ) : EReal) := by
    intro l
    have hl : ¬(Fin.natAdd 128 l).val < 128 := by simp
    have hs : (Fin.natAdd 128 l).val - 128 = l.val := by simp
    rw [kLane, qLane, dif_neg hl, dif_neg hl]
    simp only [hs]
    rw [h3, h1]
    split
    · rw [← EReal.coe_mul]
    · simp
  simp only [ha, hb]
  rw [sum_coe, sum_coe, ← EReal.coe_add, gates_sum _ _ e he, head_sum _ _ e he]
  congr 1
  rw [Finset.sum_mul, add_sub_assoc, add_div, Finset.sum_div]
  congr 1
  refine Finset.sum_congr rfl fun d _ => ?_
  ring

end Cert.KernelIdeal.Block
-- ==== Proof.Host.lean ====
/- What the host's arrays hold when the attention kernel is called: the scaled queries, the keys, the values of one block
   of positions per row, the sigmoid of the gate, and the lanes of the cumulative gates. -/
module

public import proofs.«01_k».proof.Proof.Logit
public import proofs.«01_k».proof.Proof.Gen.KernelIdeal.Value
public import Idealize.ShloMosaic.Lib.StableHlo.ReadAt
public import Idealize.ShloMosaic.Lib.Pipeline.ValueKit

@[expose] public section

set_option maxRecDepth 16384

noncomputable section

namespace Cert.KernelIdeal.Host

open Cert.KernelIdeal Cert.KernelIdeal.Gen Idealize.ShloMosaic Idealize.ShloMosaic.TcCoe Idealize.SL.Sem Cert.Row

variable (m : (ℓ : Loc nD τ sig) → Buf (Elt Ideal) ℓ) (c : Dev nD)

/-- The queries, the keys, the values, the cumulative log gates and the output gate, at the call. -/
def qs (b : Fin 8) (t : Fin 4096) (h : Fin 16) (d : Fin 64) : EReal := m (c, Proc.tc.devRef main_arg0) (ix4 b t h d)
def ks (b : Fin 8) (t : Fin 4096) (h : Fin 16) (d : Fin 64) : EReal := m (c, Proc.tc.devRef main_arg1) (ix4 b t h d)
def vs (b : Fin 8) (t : Fin 4096) (h : Fin 16) (d : Fin 64) : EReal := m (c, Proc.tc.devRef main_arg2) (ix4 b t h d)
def cs (b : Fin 8) (t : Fin 4096) (h : Fin 16) : EReal := m (c, Proc.tc.devRef main_arg3) (ix3 b t h)
def gs (b : Fin 8) (t : Fin 4096) (f : Fin 1024) : EReal := m (c, Proc.tc.devRef main_arg4) (ix3 b t f)

/-- The word of two. -/
theorem two : Ideal.ofBits FTy.f32 1073741824#32 = ((2 : ℝ) : EReal) := by
  simp [Ideal.ofBits, Ideal.ieee, -EReal.coe_mul]; norm_num

/-- One over the logarithm of two, as the host computes it. -/
theorem bit : Ideal.div 1 (Ideal.log (Ideal.ofBits FTy.f32 1073741824#32)) = ((1 / Real.log 2 : ℝ) : EReal) := by
  have hl : ((Real.log 2 : ℝ) : EReal) ≠ 0 := EReal.coe_ne_zero.mpr (Real.log_pos (by norm_num)).ne'
  rw [two, Ideal.log_coe, if_neg (by norm_num), Ideal.div, if_neg hl, one_mul, ← EReal.coe_inv, one_div]

/-- An eighth. -/
theorem eighth : Ideal.ofBits FTy.f32 1040187392#32 = ((1 / 8 : ℝ) : EReal) := by
  simp [Ideal.ofBits, Ideal.ieee, -EReal.coe_mul]; norm_num

/-- The word of the integer zero. -/
theorem int_zero : (FloatOps.sitofp (F := Ideal) FTy.f32 0#32 : EReal) = ((0 : ℝ) : EReal) := by
  show (((((0#32 : BitVec 32).toInt : ℤ) : ℝ)) : EReal) = _
  simp

theorem read6 (hf : Finite4 (qs m c)) (b : Fin 8) (t : Fin 4096) (d : Fin 1024) :
    V m c main_v6 (ix3 b t d) = (((qs m c b t ⟨d.val / 64, by omega⟩ ⟨d.val % 64, by omega⟩).toReal * (1 / 8 * (1 / Real.log 2)) : ℝ) : EReal) := by
  have h := hf b t ⟨d.val / 64, by omega⟩ ⟨d.val % 64, by omega⟩
  rw [EReal.coe_mul, ← h, EReal.coe_mul, ← eighth, ← bit]
  unfold V; after_reads_at
  rfl

theorem read9 (hf : Finite4 (ks m c)) (p b : Fin 8) (t : Fin 4096) (d : Fin 128) :
    V m c main_v9 (ix4 p b t d) = (((ks m c b t ⟨p.val * 2 + d.val / 64, by omega⟩ ⟨d.val % 64, by omega⟩).toReal : ℝ) : EReal) := by
  rw [← hf b t ⟨p.val * 2 + d.val / 64, by omega⟩ ⟨d.val % 64, by omega⟩]
  unfold V; after_reads_at
  rfl

theorem read12 (b : Fin 64) (d : Fin 1024) (t : Fin 512) :
    V m c main_v12 (ix3 b d t) = vs m c ⟨b.val / 8, by omega⟩ ⟨b.val % 8 * 512 + t.val, by omega⟩ ⟨d.val / 64, by omega⟩ ⟨d.val % 64, by omega⟩ := by
  unfold V; after_reads_at
  rfl

theorem read19 (b : Fin 8) (t : Fin 4096) (d : Fin 1024) :
    V m c main_v19 (ix3 b t d) = Ideal.div 1 (1 + Ideal.exp (-gs m c b t d)) := by
  unfold V; after_reads_at
  rfl

/-- The two cumulative gates of pair `p` at a position. -/
def pair (b : Fin 8) (p : Fin 8) (t : Fin 4096) (e : ℕ) : ℝ := (cs m c b t ⟨(p.val * 2 + e) % 16, by omega⟩).toReal

theorem gate_real (hf : Finite3 (cs m c)) (b p : Fin 8) (t : Fin 4096) (e : ℕ) (h : p.val * 2 + e < 16) :
    HMul.hMul (α := EReal) (β := EReal) (γ := EReal) (m (c, Proc.tc.devRef main_arg3) (ix3 b t ⟨p.val * 2 + e, h⟩))
        (Ideal.div 1 (Ideal.log (Ideal.ofBits FTy.f32 1073741824#32)))
      = ((pair m c b p t e / Real.log 2 : ℝ) : EReal) := by
  have hh : (⟨(p.val * 2 + e) % 16, by omega⟩ : Fin 16) = ⟨p.val * 2 + e, h⟩ := Fin.ext (Nat.mod_eq_of_lt h)
  have h1 : m (c, Proc.tc.devRef main_arg3) (ix3 b t ⟨p.val * 2 + e, h⟩) = ((pair m c b p t e : ℝ) : EReal) := by
    unfold pair; rw [hh]; exact hf b t _
  rw [h1, bit, ← EReal.coe_mul, mul_one_div]

theorem read41 (hf : Finite3 (cs m c)) (b p : Fin 8) (t : Fin 4096) (d : Fin 128) :
    V m c main_v41 (ix4 b p t d) = ((queryGate (pair m c b p t) d.val : ℝ) : EReal) := by
  unfold V; after_reads_at
  after_reads_at
  after_reads_at
  unfold queryGate
  by_cases h : d.val < 12
  · have key := gate_real m c hf b p t (d.val / 6) (by omega)
    simp only [dif_pos h, if_pos h, key, ← EReal.coe_sub]
    by_cases h3 : d.val % 6 < 3
    · simp only [dif_pos h3, if_pos h3]
      by_cases h1 : d.val % 6 < 1
      · simp only [dif_pos h1, if_pos h1]
      · simp only [dif_neg h1, if_neg h1, sub_self, dite_eq_ite, ite_self]
    · simp only [dif_neg h3, if_neg h3, EReal.coe_one]
  · simp only [dif_neg h, if_neg h]
    exact int_zero

theorem read47 (hf : Finite3 (cs m c)) (b p : Fin 8) (t : Fin 4096) (d : Fin 128) :
    V m c main_v47 (ix4 b p t d) = ((keyGate (pair m c b p t) d.val : ℝ) : EReal) := by
  unfold V; after_reads_at
  after_reads_at
  after_reads_at
  unfold keyGate
  by_cases h : d.val < 12
  · have key := gate_real m c hf b p t (d.val / 6) (by omega)
    simp only [dif_pos h, if_pos h, key, ← EReal.coe_sub]
    by_cases h3 : d.val % 6 < 3
    · simp only [dif_pos h3, if_pos h3, EReal.coe_one]
    · simp only [dif_neg h3, if_neg h3]
      by_cases h1 : d.val % 6 < 4
      · have h1' : d.val % 6 - 3 < 1 := by omega
        simp only [dif_pos h1', if_pos h1, EReal.coe_neg]
      · have h1' : ¬d.val % 6 - 3 < 1 := by omega
        simp only [dif_neg h1', if_neg h1, sub_self, dite_eq_ite, ite_self, EReal.coe_zero, neg_zero]
  · simp only [dif_neg h, if_neg h]
    exact int_zero

end Cert.KernelIdeal.Host
-- ==== Proof.CaseA.lean ====
/- What the attention kernel's body stores for query block 0 of a sequence: 0 blocks of keys that all its queries see, the
   block on the diagonal, and the block that the later half sees. -/
module

public import proofs.«01_k».proof.Proof.Words
public import proofs.«01_k».proof.Proof.Gen.KernelIdeal.Frame

@[expose] public section

set_option maxRecDepth 65536

noncomputable section

namespace Cert.KernelIdeal.Block

open Cert.KernelIdeal Cert.KernelIdeal.Gen Idealize.ShloMosaic Idealize.SL.Sem Cert.Row

set_option maxHeartbeats 1000000 in
theorem outA (c : Dev nD) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x1x4096x128 .bf16) (harg5 : arg5.IsWhole) (arg6 : Memref sig .tc .vmem S1x1x4096x128 .bf16) (harg6 : arg6.IsWhole) (arg7 : Memref sig .tc .vmem S8x128x512 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (hc0 : ¬cond0_0 i)
    (x0 : Vec Ideal S1x1024x128 .bf16) (x1 : Vec Ideal S1x1x1024x128 .bf16) (x2 : Vec Ideal S1x1x4096x128 .bf16) (x3 : Vec Ideal S1x1x4096x128 .bf16)
    (x4 : Vec Ideal S8x128x512 .bf16) (x5 : Vec Ideal S1x1024x128 .bf16) (q : Fin 1024) (f : Fin 128) :
    out0_A_6 c i arg3 harg3 arg4 harg4 arg5 harg5 arg6 harg6 arg7 harg7 arg8 harg8 arg9 harg9 arg10 harg10 arg11 harg11 hc0 x0 x1 x2 x3 x4 x5 (ix3 0 q f) =
      stored x0 x1 x2 x3 x4 x5 0 q f := by
  have hQ0 := q0_read arg3 harg3 arg4 harg4 x0 x1
  have hQ1 := q1_read arg3 harg3 arg4 harg4 x0 x1
  have hK := k_read arg5 harg5 x2
  have hB := k_read arg6 harg6 x3
  have hV := v_read arg7 harg7 x4
  unfold out0_A_6
  rw [View.read_writes_junk_eq_canon]
  refine (canon_hit (S := S1x1024x128) _ _ _ _ _ _ (ix3 0 q f) (by intro a; fin_cases a <;> simp)).trans ?_
  refine (final_block (S0 := score x0 x1 x2 x3 0 0) (S1 := score x0 x1 x2 x3 0 1) (W := value x4) (n := fun q => if q.val < 512 then 1 else 2) ?_ ?_ (sg_read arg8 harg8 x5 _) _ _ _ _ q f).trans ?_
  · refine Acc.other ?_ 1 512 (by decide) _ rfl _ _
    refine Head.late_acc 1 ?_ 0 rfl _ _ _ _ (v_block (by norm_num) (hV 1 (by norm_num) _) rfl) (late_block (b := 1) (by norm_num) (by norm_num) (hQ0 _ _) (hK 1 (by norm_num) _) (hB 1 (by norm_num) _) rfl)
    refine Head.other ?_ 1 0 (by decide) _ _ _ _ _ _
    refine Head.full 0 ?_ 0 rfl _ _ _ _ (v_block (by norm_num) (hV 0 (by norm_num) _) rfl) (diag_block (b := 0) (by norm_num) (by norm_num) (hQ0 _ _) (hK 0 (by norm_num) _) (hB 0 (by norm_num) _) rfl)
    exact head_init 0 _ _ _ _
  · refine Head.late_acc 1 ?_ 1 rfl _ _ _ _ (v_block (by norm_num) (hV 1 (by norm_num) _) rfl) (late_block (b := 1) (by norm_num) (by norm_num) (hQ1 _ _) (hK 1 (by norm_num) _) (hB 1 (by norm_num) _) rfl)
    refine Head.other ?_ 0 512 (by decide) _ _ _ _ _ _
    refine Head.full 0 ?_ 1 rfl _ _ _ _ (v_block (by norm_num) (hV 0 (by norm_num) _) rfl) (diag_block (b := 0) (by norm_num) (by norm_num) (hQ1 _ _) (hK 0 (by norm_num) _) (hB 0 (by norm_num) _) rfl)
    refine Head.other ?_ 0 0 (by decide) _ _ _ _ _ _
    exact head_init 1 _ _ _ _
  · rfl

end Cert.KernelIdeal.Block
-- ==== Proof.CaseB.lean ====
/- What the attention kernel's body stores for query block 1 of a sequence: 2 blocks of keys that all its queries see, the
   block on the diagonal, and the block that the later half sees. -/
module

public import proofs.«01_k».proof.Proof.Words
public import proofs.«01_k».proof.Proof.Gen.KernelIdeal.Frame

@[expose] public section

set_option maxRecDepth 65536

noncomputable section

namespace Cert.KernelIdeal.Block

open Cert.KernelIdeal Cert.KernelIdeal.Gen Idealize.ShloMosaic Idealize.SL.Sem Cert.Row

set_option maxHeartbeats 1000000 in
theorem outB (c : Dev nD) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x1x4096x128 .bf16) (harg5 : arg5.IsWhole) (arg6 : Memref sig .tc .vmem S1x1x4096x128 .bf16) (harg6 : arg6.IsWhole) (arg7 : Memref sig .tc .vmem S8x128x512 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (hc0 : cond0_0 i) (hc1 : ¬cond0_1 i)
    (x0 : Vec Ideal S1x1024x128 .bf16) (x1 : Vec Ideal S1x1x1024x128 .bf16) (x2 : Vec Ideal S1x1x4096x128 .bf16) (x3 : Vec Ideal S1x1x4096x128 .bf16)
    (x4 : Vec Ideal S8x128x512 .bf16) (x5 : Vec Ideal S1x1024x128 .bf16) (q : Fin 1024) (f : Fin 128) :
    out0_B_6 c i arg3 harg3 arg4 harg4 arg5 harg5 arg6 harg6 arg7 harg7 arg8 harg8 arg9 harg9 arg10 harg10 arg11 harg11 hc0 hc1 x0 x1 x2 x3 x4 x5 (ix3 0 q f) =
      stored x0 x1 x2 x3 x4 x5 1 q f := by
  have hQ0 := q0_read arg3 harg3 arg4 harg4 x0 x1
  have hQ1 := q1_read arg3 harg3 arg4 harg4 x0 x1
  have hK := k_read arg5 harg5 x2
  have hB := k_read arg6 harg6 x3
  have hV := v_read arg7 harg7 x4
  unfold out0_B_6
  rw [View.read_writes_junk_eq_canon]
  refine (canon_hit (S := S1x1024x128) _ _ _ _ _ _ (ix3 0 q f) (by intro a; fin_cases a <;> simp)).trans ?_
  refine (final_block (S0 := score x0 x1 x2 x3 1 0) (S1 := score x0 x1 x2 x3 1 1) (W := value x4) (n := fun q => if q.val < 512 then 3 else 4) ?_ ?_ (sg_read arg8 harg8 x5 _) _ _ _ _ q f).trans ?_
  · refine Acc.other ?_ 1 512 (by decide) _ rfl _ _
    refine Head.late_acc 3 ?_ 0 rfl _ _ _ _ (v_block (by norm_num) (hV 3 (by norm_num) _) rfl) (late_block (b := 3) (by norm_num) (by norm_num) (hQ0 _ _) (hK 3 (by norm_num) _) (hB 3 (by norm_num) _) rfl)
    refine Head.other ?_ 1 0 (by decide) _ _ _ _ _ _
    refine Head.full 2 ?_ 0 rfl _ _ _ _ (v_block (by norm_num) (hV 2 (by norm_num) _) rfl) (diag_block (b := 2) (by norm_num) (by norm_num) (hQ0 _ _) (hK 2 (by norm_num) _) (hB 2 (by norm_num) _) rfl)
    refine Head.other ?_ 1 0 (by decide) _ _ _ _ _ _
    refine Head.full 1 ?_ 0 rfl _ _ _ _ (v_block (by norm_num) (hV 1 (by norm_num) _) rfl) (full_block (b := 1) (by norm_num) (by norm_num) (hQ0 _ _) (hK 1 (by norm_num) _) (hB 1 (by norm_num) _) rfl)
    refine Head.other ?_ 1 0 (by decide) _ _ _ _ _ _
    refine Head.full 0 ?_ 0 rfl _ _ _ _ (v_block (by norm_num) (hV 0 (by norm_num) _) rfl) (full_block (b := 0) (by norm_num) (by norm_num) (hQ0 _ _) (hK 0 (by norm_num) _) (hB 0 (by norm_num) _) rfl)
    exact head_init 0 _ _ _ _
  · refine Head.late_acc 3 ?_ 1 rfl _ _ _ _ (v_block (by norm_num) (hV 3 (by norm_num) _) rfl) (late_block (b := 3) (by norm_num) (by norm_num) (hQ1 _ _) (hK 3 (by norm_num) _) (hB 3 (by norm_num) _) rfl)
    refine Head.other ?_ 0 512 (by decide) _ _ _ _ _ _
    refine Head.full 2 ?_ 1 rfl _ _ _ _ (v_block (by norm_num) (hV 2 (by norm_num) _) rfl) (diag_block (b := 2) (by norm_num) (by norm_num) (hQ1 _ _) (hK 2 (by norm_num) _) (hB 2 (by norm_num) _) rfl)
    refine Head.other ?_ 0 0 (by decide) _ _ _ _ _ _
    refine Head.full 1 ?_ 1 rfl _ _ _ _ (v_block (by norm_num) (hV 1 (by norm_num) _) rfl) (full_block (b := 1) (by norm_num) (by norm_num) (hQ1 _ _) (hK 1 (by norm_num) _) (hB 1 (by norm_num) _) rfl)
    refine Head.other ?_ 0 0 (by decide) _ _ _ _ _ _
    refine Head.full 0 ?_ 1 rfl _ _ _ _ (v_block (by norm_num) (hV 0 (by norm_num) _) rfl) (full_block (b := 0) (by norm_num) (by norm_num) (hQ1 _ _) (hK 0 (by norm_num) _) (hB 0 (by norm_num) _) rfl)
    refine Head.other ?_ 0 0 (by decide) _ _ _ _ _ _
    exact head_init 1 _ _ _ _
  · rfl

end Cert.KernelIdeal.Block
-- ==== Proof.CaseC.lean ====
/- What the attention kernel's body stores for query block 2 of a sequence: 4 blocks of keys that all its queries see, the
   block on the diagonal, and the block that the later half sees. -/
module

public import proofs.«01_k».proof.Proof.Words
public import proofs.«01_k».proof.Proof.Gen.KernelIdeal.Frame

@[expose] public section

set_option maxRecDepth 65536

noncomputable section

namespace Cert.KernelIdeal.Block

open Cert.KernelIdeal Cert.KernelIdeal.Gen Idealize.ShloMosaic Idealize.SL.Sem Cert.Row

set_option maxHeartbeats 1000000 in
theorem outC (c : Dev nD) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x1x4096x128 .bf16) (harg5 : arg5.IsWhole) (arg6 : Memref sig .tc .vmem S1x1x4096x128 .bf16) (harg6 : arg6.IsWhole) (arg7 : Memref sig .tc .vmem S8x128x512 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (hc0 : cond0_0 i) (hc1 : cond0_1 i) (hc2 : ¬cond0_2 i)
    (x0 : Vec Ideal S1x1024x128 .bf16) (x1 : Vec Ideal S1x1x1024x128 .bf16) (x2 : Vec Ideal S1x1x4096x128 .bf16) (x3 : Vec Ideal S1x1x4096x128 .bf16)
    (x4 : Vec Ideal S8x128x512 .bf16) (x5 : Vec Ideal S1x1024x128 .bf16) (q : Fin 1024) (f : Fin 128) :
    out0_C_6 c i arg3 harg3 arg4 harg4 arg5 harg5 arg6 harg6 arg7 harg7 arg8 harg8 arg9 harg9 arg10 harg10 arg11 harg11 hc0 hc1 hc2 x0 x1 x2 x3 x4 x5 (ix3 0 q f) =
      stored x0 x1 x2 x3 x4 x5 2 q f := by
  have hQ0 := q0_read arg3 harg3 arg4 harg4 x0 x1
  have hQ1 := q1_read arg3 harg3 arg4 harg4 x0 x1
  have hK := k_read arg5 harg5 x2
  have hB := k_read arg6 harg6 x3
  have hV := v_read arg7 harg7 x4
  unfold out0_C_6
  rw [View.read_writes_junk_eq_canon]
  refine (canon_hit (S := S1x1024x128) _ _ _ _ _ _ (ix3 0 q f) (by intro a; fin_cases a <;> simp)).trans ?_
  refine (final_block (S0 := score x0 x1 x2 x3 2 0) (S1 := score x0 x1 x2 x3 2 1) (W := value x4) (n := fun q => if q.val < 512 then 5 else 6) ?_ ?_ (sg_read arg8 harg8 x5 _) _ _ _ _ q f).trans ?_
  · refine Acc.other ?_ 1 512 (by decide) _ rfl _ _
    refine Head.late_acc 5 ?_ 0 rfl _ _ _ _ (v_block (by norm_num) (hV 5 (by norm_num) _) rfl) (late_block (b := 5) (by norm_num) (by norm_num) (hQ0 _ _) (hK 5 (by norm_num) _) (hB 5 (by norm_num) _) rfl)
    refine Head.other ?_ 1 0 (by decide) _ _ _ _ _ _
    refine Head.full 4 ?_ 0 rfl _ _ (kernelRun0_C.sl.r_6 c arg7 harg7 x4) (kernelRun0_C.sl.r_4 c arg3 harg3 arg4 harg4 arg5 harg5 arg6 harg6 x0 x1 x2 x3) (v_block (by norm_num) (hV 4 (by norm_num) _) rfl) (diag_block (b := 4) (by norm_num) (by norm_num) (hQ0 _ _) (hK 4 (by norm_num) _) (hB 4 (by norm_num) _) rfl)
    refine Head.other ?_ 1 0 (by decide) _ _ _ _ _ _
    refine Head.full 3 ?_ 0 rfl _ _ _ _ (v_block (by norm_num) (hV 3 (by norm_num) _) rfl) (full_block (b := 3) (by norm_num) (by norm_num) (hQ0 _ _) (hK 3 (by norm_num) _) (hB 3 (by norm_num) _) rfl)
    refine Head.other ?_ 1 0 (by decide) _ _ _ _ _ _
    refine Head.full 2 ?_ 0 rfl _ _ _ _ (v_block (by norm_num) (hV 2 (by norm_num) _) rfl) (full_block (b := 2) (by norm_num) (by norm_num) (hQ0 _ _) (hK 2 (by norm_num) _) (hB 2 (by norm_num) _) rfl)
    refine Head.other ?_ 1 0 (by decide) _ _ _ _ _ _
    refine Head.full 1 ?_ 0 rfl _ _ _ _ (v_block (by norm_num) (hV 1 (by norm_num) _) rfl) (full_block (b := 1) (by norm_num) (by norm_num) (hQ0 _ _) (hK 1 (by norm_num) _) (hB 1 (by norm_num) _) rfl)
    refine Head.other ?_ 1 0 (by decide) _ _ _ _ _ _
    refine Head.full 0 ?_ 0 rfl _ _ _ _ (v_block (by norm_num) (hV 0 (by norm_num) _) rfl) (full_block (b := 0) (by norm_num) (by norm_num) (hQ0 _ _) (hK 0 (by norm_num) _) (hB 0 (by norm_num) _) rfl)
    exact head_init 0 _ _ _ _
  · refine Head.late_acc 5 ?_ 1 rfl _ _ _ _ (v_block (by norm_num) (hV 5 (by norm_num) _) rfl) (late_block (b := 5) (by norm_num) (by norm_num) (hQ1 _ _) (hK 5 (by norm_num) _) (hB 5 (by norm_num) _) rfl)
    refine Head.other ?_ 0 512 (by decide) _ _ _ _ _ _
    refine Head.full 4 ?_ 1 rfl _ _ (kernelRun0_C.sl.r_6 c arg7 harg7 x4) (kernelRun0_C.sl.r_5 c arg3 harg3 arg4 harg4 arg5 harg5 arg6 harg6 x0 x1 x2 x3) (v_block (by norm_num) (hV 4 (by norm_num) _) rfl) (diag_block (b := 4) (by norm_num) (by norm_num) (hQ1 _ _) (hK 4 (by norm_num) _) (hB 4 (by norm_num) _) rfl)
    refine Head.other ?_ 0 0 (by decide) _ _ _ _ _ _
    refine Head.full 3 ?_ 1 rfl _ _ _ _ (v_block (by norm_num) (hV 3 (by norm_num) _) rfl) (full_block (b := 3) (by norm_num) (by norm_num) (hQ1 _ _) (hK 3 (by norm_num) _) (hB 3 (by norm_num) _) rfl)
    refine Head.other ?_ 0 0 (by decide) _ _ _ _ _ _
    refine Head.full 2 ?_ 1 rfl _ _ _ _ (v_block (by norm_num) (hV 2 (by norm_num) _) rfl) (full_block (b := 2) (by norm_num) (by norm_num) (hQ1 _ _) (hK 2 (by norm_num) _) (hB 2 (by norm_num) _) rfl)
    refine Head.other ?_ 0 0 (by decide) _ _ _ _ _ _
    refine Head.full 1 ?_ 1 rfl _ _ _ _ (v_block (by norm_num) (hV 1 (by norm_num) _) rfl) (full_block (b := 1) (by norm_num) (by norm_num) (hQ1 _ _) (hK 1 (by norm_num) _) (hB 1 (by norm_num) _) rfl)
    refine Head.other ?_ 0 0 (by decide) _ _ _ _ _ _
    refine Head.full 0 ?_ 1 rfl _ _ _ _ (v_block (by norm_num) (hV 0 (by norm_num) _) rfl) (full_block (b := 0) (by norm_num) (by norm_num) (hQ1 _ _) (hK 0 (by norm_num) _) (hB 0 (by norm_num) _) rfl)
    refine Head.other ?_ 0 0 (by decide) _ _ _ _ _ _
    exact head_init 1 _ _ _ _
  · rfl

end Cert.KernelIdeal.Block
-- ==== Proof.CaseD.lean ====
/- What the attention kernel's body stores for query block 3 of a sequence: 6 blocks of keys that all its queries see, the
   block on the diagonal, and the block that the later half sees. -/
module

public import proofs.«01_k».proof.Proof.Words
public import proofs.«01_k».proof.Proof.Gen.KernelIdeal.Frame

@[expose] public section

set_option maxRecDepth 65536

noncomputable section

namespace Cert.KernelIdeal.Block

open Cert.KernelIdeal Cert.KernelIdeal.Gen Idealize.ShloMosaic Idealize.SL.Sem Cert.Row

set_option maxHeartbeats 1000000 in
theorem outD (c : Dev nD) (i : grid0.Coords) (arg3 : Memref sig .tc .vmem S1x1024x128 .bf16) (harg3 : arg3.IsWhole) (arg4 : Memref sig .tc .vmem S1x1x1024x128 .bf16) (harg4 : arg4.IsWhole) (arg5 : Memref sig .tc .vmem S1x1x4096x128 .bf16) (harg5 : arg5.IsWhole) (arg6 : Memref sig .tc .vmem S1x1x4096x128 .bf16) (harg6 : arg6.IsWhole) (arg7 : Memref sig .tc .vmem S8x128x512 .bf16) (harg7 : arg7.IsWhole) (arg8 : Memref sig .tc .vmem S1x1024x128 .bf16) (harg8 : arg8.IsWhole) (arg9 : Memref sig .tc .vmem S1x1024x128 .bf16) (harg9 : arg9.IsWhole) (arg10 : Memref sig .tc .vmem S2x1x1024 .f32) (harg10 : arg10.IsWhole) (arg11 : Memref sig .tc .vmem S2x144x1024 .f32) (harg11 : arg11.IsWhole) (hc0 : cond0_0 i) (hc1 : cond0_1 i) (hc2 : cond0_2 i)
    (x0 : Vec Ideal S1x1024x128 .bf16) (x1 : Vec Ideal S1x1x1024x128 .bf16) (x2 : Vec Ideal S1x1x4096x128 .bf16) (x3 : Vec Ideal S1x1x4096x128 .bf16)
    (x4 : Vec Ideal S8x128x512 .bf16) (x5 : Vec Ideal S1x1024x128 .bf16) (q : Fin 1024) (f : Fin 128) :
    out0_D_6 c i arg3 harg3 arg4 harg4 arg5 harg5 arg6 harg6 arg7 harg7 arg8 harg8 arg9 harg9 arg10 harg10 arg11 harg11 hc0 hc1 hc2 x0 x1 x2 x3 x4 x5 (ix3 0 q f) =
      stored x0 x1 x2 x3 x4 x5 3 q f := by
  have hQ0 := q0_read arg3 harg3 arg4 harg4 x0 x1
  have hQ1 := q1_read arg3 harg3 arg4 harg4 x0 x1
  have hK := k_read arg5 harg5 x2
  have hB := k_read arg6 harg6 x3
  have hV := v_read arg7 harg7 x4
  unfold out0_D_6
  rw [View.read_writes_junk_eq_canon]
  refine (canon_hit (S := S1x1024x128) _ _ _ _ _ _ (ix3 0 q f) (by intro a; fin_cases a <;> simp)).trans ?_
  refine (final_block (S0 := score x0 x1 x2 x3 3 0) (S1 := score x0 x1 x2 x3 3 1) (W := value x4) (n := fun q => if q.val < 512 then 7 else 8) ?_ ?_ (sg_read arg8 harg8 x5 _) _ _ _ _ q f).trans ?_
  · refine Acc.other ?_ 1 512 (by decide) _ rfl _ _
    refine Head.late_acc 7 ?_ 0 rfl _ _ _ _ (v_block (by norm_num) (hV 7 (by norm_num) _) rfl) (late_block (b := 7) (by norm_num) (by norm_num) (hQ0 _ _) (hK 7 (by norm_num) _) (hB 7 (by norm_num) _) rfl)
    refine Head.other ?_ 1 0 (by decide) _ _ _ _ _ _
    refine Head.full 6 ?_ 0 rfl _ _ _ _ (v_block (by norm_num) (hV 6 (by norm_num) _) rfl) (diag_block (b := 6) (by norm_num) (by norm_num) (hQ0 _ _) (hK 6 (by norm_num) _) (hB 6 (by norm_num) _) rfl)
    refine Head.other ?_ 1 0 (by decide) _ _ _ _ _ _
    refine Head.full 5 ?_ 0 rfl _ _ _ _ (v_block (by norm_num) (hV 5 (by norm_num) _) rfl) (full_block (b := 5) (by norm_num) (by norm_num) (hQ0 _ _) (hK 5 (by norm_num) _) (hB 5 (by norm_num) _) rfl)
    refine Head.other ?_ 1 0 (by decide) _ _ _ _ _ _
    refine Head.full 4 ?_ 0 rfl _ _ _ _ (v_block (by norm_num) (hV 4 (by norm_num) _) rfl) (full_block (b := 4) (by norm_num) (by norm_num) (hQ0 _ _) (hK 4 (by norm_num) _) (hB 4 (by norm_num) _) rfl)
    refine Head.other ?_ 1 0 (by decide) _ _ _ _ _ _
    refine Head.full 3 ?_ 0 rfl _ _ _ _ (v_block (by norm_num) (hV 3 (by norm_num) _) rfl) (full_block (b := 3) (by norm_num) (by norm_num) (hQ0 _ _) (hK 3 (by norm_num) _) (hB 3 (by norm_num) _) rfl)
    refine Head.other ?_ 1 0 (by decide) _ _ _ _ _ _
    refine Head.full 2 ?_ 0 rfl _ _ _ _ (v_block (by norm_num) (hV 2 (by norm_num) _) rfl) (full_block (b := 2) (by norm_num) (by norm_num) (hQ0 _ _) (hK 2 (by norm_num) _) (hB 2 (by norm_num) _) rfl)
    refine Head.other ?_ 1 0 (by decide) _ _ _ _ _ _
    refine Head.full 1 ?_ 0 rfl _ _ _ _ (v_block (by norm_num) (hV 1 (by norm_num) _) rfl) (full_block (b := 1) (by norm_num) (by norm_num) (hQ0 _ _) (hK 1 (by norm_num) _) (hB 1 (by norm_num) _) rfl)
    refine Head.other ?_ 1 0 (by decide) _ _ _ _ _ _
    refine Head.full 0 ?_ 0 rfl _ _ _ _ (v_block (by norm_num) (hV 0 (by norm_num) _) rfl) (full_block (b := 0) (by norm_num) (by norm_num) (hQ0 _ _) (hK 0 (by norm_num) _) (hB 0 (by norm_num) _) rfl)
    exact head_init 0 _ _ _ _
  · refine Head.late_acc 7 ?_ 1 rfl _ _ _ _ (v_block (by norm_num) (hV 7 (by norm_num) _) rfl) (late_block (b := 7) (by norm_num) (by norm_num) (hQ1 _ _) (hK 7 (by norm_num) _) (hB 7 (by norm_num) _) rfl)
    refine Head.other ?_ 0 512 (by decide) _ _ _ _ _ _
    refine Head.full 6 ?_ 1 rfl _ _ _ _ (v_block (by norm_num) (hV 6 (by norm_num) _) rfl) (diag_block (b := 6) (by norm_num) (by norm_num) (hQ1 _ _) (hK 6 (by norm_num) _) (hB 6 (by norm_num) _) rfl)
    refine Head.other ?_ 0 0 (by decide) _ _ _ _ _ _
    refine Head.full 5 ?_ 1 rfl _ _ _ _ (v_block (by norm_num) (hV 5 (by norm_num) _) rfl) (full_block (b := 5) (by norm_num) (by norm_num) (hQ1 _ _) (hK 5 (by norm_num) _) (hB 5 (by norm_num) _) rfl)
    refine Head.other ?_ 0 0 (by decide) _ _ _ _ _ _
    refine Head.full 4 ?_ 1 rfl _ _ _ _ (v_block (by norm_num) (hV 4 (by norm_num) _) rfl) (full_block (b := 4) (by norm_num) (by norm_num) (hQ1 _ _) (hK 4 (by norm_num) _) (hB 4 (by norm_num) _) rfl)
    refine Head.other ?_ 0 0 (by decide) _ _ _ _ _ _
    refine Head.full 3 ?_ 1 rfl _ _ _ _ (v_block (by norm_num) (hV 3 (by norm_num) _) rfl) (full_block (b := 3) (by norm_num) (by norm_num) (hQ1 _ _) (hK 3 (by norm_num) _) (hB 3 (by norm_num) _) rfl)
    refine Head.other ?_ 0 0 (by decide) _ _ _ _ _ _
    refine Head.full 2 ?_ 1 rfl _ _ _ _ (v_block (by norm_num) (hV 2 (by norm_num) _) rfl) (full_block (b := 2) (by norm_num) (by norm_num) (hQ1 _ _) (hK 2 (by norm_num) _) (hB 2 (by norm_num) _) rfl)
    refine Head.other ?_ 0 0 (by decide) _ _ _ _ _ _
    refine Head.full 1 ?_ 1 rfl _ _ _ _ (v_block (by norm_num) (hV 1 (by norm_num) _) rfl) (full_block (b := 1) (by norm_num) (by norm_num) (hQ1 _ _) (hK 1 (by norm_num) _) (hB 1 (by norm_num) _) rfl)
    refine Head.other ?_ 0 0 (by decide) _ _ _ _ _ _
    refine Head.full 0 ?_ 1 rfl _ _ _ _ (v_block (by norm_num) (hV 0 (by norm_num) _) rfl) (full_block (b := 0) (by norm_num) (by norm_num) (hQ1 _ _) (hK 0 (by norm_num) _) (hB 0 (by norm_num) _) rfl)
    refine Head.other ?_ 0 0 (by decide) _ _ _ _ _ _
    exact head_init 1 _ _ _ _
  · rfl

end Cert.KernelIdeal.Block
-- ==== Proof.Array.lean ====
/- The array that the attention kernel leaves: at every position and feature the gated attention of the call's arguments. -/
module

public import proofs.«01_k».proof.Proof.Host
public import proofs.«01_k».proof.Proof.CaseA
public import proofs.«01_k».proof.Proof.CaseB
public import proofs.«01_k».proof.Proof.CaseC
public import proofs.«01_k».proof.Proof.CaseD
public import Idealize.ShloMosaic.Lib.Pipeline.Covers

@[expose] public section

set_option maxRecDepth 16384

noncomputable section

namespace Cert.KernelIdeal.Final

open Cert.KernelIdeal Cert.KernelIdeal.Gen Idealize.ShloMosaic Idealize.ShloMosaic.TcCoe Idealize.SL.Sem Cert.Row Cert.KernelIdeal.Host Cert.KernelIdeal.Block
open Idealize.ShloMosaic.Pipeline (Dat)

variable (m : (ℓ : Loc nD τ sig) → Buf (Elt Ideal) ℓ) (c : Dev nD)

/-- Which blocks a grid point reads and writes: point `t` is sequence `t / 32`, pair of heads `t / 4 % 8`, block of queries `t % 4`. -/
theorem idx : ∀ t : Fin cfg0.N, win0_0.index t = ![t.val / 32, t.val % 4, t.val / 4 % 8] ∧ win0_1.index t = ![t.val / 32, t.val / 4 % 8, t.val % 4, 0]
    ∧ win0_2.index t = ![t.val / 4 % 8, t.val / 32, 0, 0] ∧ win0_3.index t = ![t.val / 32, t.val / 4 % 8, 0, 0]
    ∧ win0_4.index t = ![t.val / 32, t.val / 4 % 8, 0] ∧ win0_5.index t = ![t.val / 32, t.val % 4, t.val / 4 % 8]
    ∧ win0_6.index t = ![t.val / 32, t.val % 4, t.val / 4 % 8] ∧ t.val < 256 :=
  (by decide +kernel : ∀ t : Fin grid0.N, _)

theorem lt256 (t : Fin cfg0.N) : t.val < 256 := (idx t).2.2.2.2.2.2.2

/-- The sequence, the pair of heads, and the position of query `q` at a grid point. -/
def seq (t : Fin cfg0.N) : Fin 8 := ⟨t.val / 32, by have := lt256 t; omega⟩
def pr (t : Fin cfg0.N) : Fin 8 := ⟨t.val / 4 % 8, by omega⟩
def query (t : Fin cfg0.N) (q : Fin 1024) : Fin 4096 := ⟨t.val % 4 * 1024 + q.val, by omega⟩
def feature (t : Fin cfg0.N) (f : Fin 128) : Fin 1024 := ⟨t.val / 4 % 8 * 128 + f.val, by omega⟩

theorem blk0 (t : Fin cfg0.N) (q : Fin 1024) (l : Fin 128) : iblk m c 0 t (ix3 0 q l) = V m c main_v6 (ix3 (seq t) (query t q) (feature t l)) := by
  blk_ext [iblk, seq, query, feature, idx t]

theorem blk1 (t : Fin cfg0.N) (q : Fin 1024) (l : Fin 128) : iblk m c 1 t (ix4 0 0 q l) = V m c main_v41 (ix4 (seq t) (pr t) (query t q) l) := by
  blk_ext [iblk, seq, query, pr, idx t]

theorem blk2 (t : Fin cfg0.N) (k : Fin 4096) (l : Fin 128) : iblk m c 2 t (ix4 0 0 k l) = V m c main_v9 (ix4 (pr t) (seq t) k l) := by
  blk_ext [iblk, seq, pr, idx t]

theorem blk3 (t : Fin cfg0.N) (k : Fin 4096) (l : Fin 128) : iblk m c 3 t (ix4 0 0 k l) = V m c main_v47 (ix4 (seq t) (pr t) k l) := by
  blk_ext [iblk, seq, pr, idx t]

theorem blk4 (t : Fin cfg0.N) (b : Fin 8) (r : Fin 128) (k : Fin 512) : iblk m c 4 t (ix3 b r k) = V m c main_v12 (ix3 ⟨(seq t).val * 8 + b.val, by omega⟩ (feature t r) k) := by
  blk_ext [iblk, seq, feature, idx t]

theorem blk5 (t : Fin cfg0.N) (q : Fin 1024) (l : Fin 128) : iblk m c 5 t (ix3 0 q l) = V m c main_v19 (ix3 (seq t) (query t q) (feature t l)) := by
  blk_ext [iblk, seq, query, feature, idx t]

/-- The head of feature `f`'s half `e` of a pair. -/
def head (t : Fin cfg0.N) (e : ℕ) (he : e < 2) : Fin 16 := ⟨(pr t).val * 2 + e, by omega⟩

/-- The kernel's scores at a grid point are the logits, in bits. -/
theorem score_eq (hq : Finite4 (qs m c)) (hk : Finite4 (ks m c)) (hc : Finite3 (cs m c)) (t : Fin cfg0.N) (e : ℕ) (he : e < 2) (q : Fin 1024) :
    score (iblk m c 0 t) (iblk m c 1 t) (iblk m c 2 t) (iblk m c 3 t) (t.val % 4) e q
      = scores (logit (qs m c) (ks m c) (cs m c) (seq t) (head t e he) (query t q)) (query t q).val := by
  funext b k
  have hs := sigma_eq (x0 := iblk m c 0 t) (x1 := iblk m c 1 t) (x2 := iblk m c 2 t) (x3 := iblk m c 3 t)
    (fun l => (qs m c (seq t) (query t q) ⟨(feature t l).val / 64, by omega⟩ ⟨(feature t l).val % 64, by omega⟩).toReal)
    (fun l => (ks m c (seq t) (pos b k) ⟨(pr t).val * 2 + l.val / 64, by omega⟩ ⟨l.val % 64, by omega⟩).toReal)
    (pair m c (seq t) (pr t) (query t q)) (pair m c (seq t) (pr t) (pos b k)) e he q (pos b k)
    (fun l => by rw [blk0]; exact read6 m c hq _ _ _) (fun l => by rw [blk1]; exact read41 m c hc _ _ _ _)
    (fun l => by rw [blk2]; exact read9 m c hk _ _ _ _) (fun l => by rw [blk3]; exact read47 m c hc _ _ _ _)
  have hpos : pos b k = at4096 (512 * b + k.val) := rfl
  have hL : logit (qs m c) (ks m c) (cs m c) (seq t) (head t e he) (query t q) (512 * b + k.val)
      = (∑ d : Fin 64, (qs m c (seq t) (query t q) ⟨(feature t ⟨64 * e + d.val, by omega⟩).val / 64, by omega⟩ ⟨(feature t ⟨64 * e + d.val, by omega⟩).val % 64, by omega⟩).toReal
          * (ks m c (seq t) (pos b k) ⟨(pr t).val * 2 + (64 * e + d.val) / 64, by have := (pr t).isLt; omega⟩ ⟨(64 * e + d.val) % 64, by omega⟩).toReal) * (1 / 8)
        + pair m c (seq t) (pr t) (query t q) e - pair m c (seq t) (pr t) (pos b k) e := by
    have hh : (⟨((pr t).val * 2 + e) % 16, by omega⟩ : Fin 16) = head t e he := Fin.ext (Nat.mod_eq_of_lt (by have := (pr t).isLt; omega))
    unfold logit pair
    rw [hh, ← hpos]
    congr 3
    refine Finset.sum_congr rfl fun d _ => ?_
    have e1 : (⟨(feature t ⟨64 * e + d.val, by omega⟩).val / 64, by omega⟩ : Fin 16) = head t e he :=
      Fin.ext (by show (t.val / 4 % 8 * 128 + (64 * e + d.val)) / 64 = t.val / 4 % 8 * 2 + e; omega)
    have e2 : (⟨(feature t ⟨64 * e + d.val, by omega⟩).val % 64, by omega⟩ : Fin 64) = d :=
      Fin.ext (by show (t.val / 4 % 8 * 128 + (64 * e + d.val)) % 64 = d.val; omega)
    have e3 : (⟨(pr t).val * 2 + (64 * e + d.val) / 64, by have := (pr t).isLt; omega⟩ : Fin 16) = head t e he :=
      Fin.ext (by show (pr t).val * 2 + (64 * e + d.val) / 64 = (pr t).val * 2 + e; omega)
    have e4 : (⟨(64 * e + d.val) % 64, by omega⟩ : Fin 64) = d := Fin.ext (by show (64 * e + d.val) % 64 = d.val; omega)
    rw [e1, e2, e3, e4]
  unfold score scores
  rw [hs, hL]
  have hcond : (1024 * (t.val % 4) + q.val) = (query t q).val := by show _ = t.val % 4 * 1024 + q.val; omega
  rw [hcond]

theorem value_eq (t : Fin cfg0.N) (f : Fin 128) :
    value (iblk m c 4 t) ⟨f.val, by omega⟩ = fun b k => vs m c (seq t) (at4096 (512 * b + k.val)) ⟨(feature t f).val / 64, by omega⟩ ⟨(feature t f).val % 64, by omega⟩ := by
  funext b k
  unfold value
  rw [dif_pos (show (⟨f.val, by omega⟩ : Fin 144).val < 128 from f.isLt), blk4, read12]
  have e1 : (⟨((seq t).val * 8 + b % 8) / 8, by have := (seq t).isLt; omega⟩ : Fin 8) = seq t := Fin.ext (by show ((seq t).val * 8 + b % 8) / 8 = (seq t).val; omega)
  have e2 : (⟨((seq t).val * 8 + b % 8) % 8 * 512 + k.val, by omega⟩ : Fin 4096) = at4096 (512 * b + k.val) :=
    Fin.ext (by show ((seq t).val * 8 + b % 8) % 8 * 512 + k.val = (512 * b + k.val) % 4096; omega)
  exact congrArg₂ (fun a p => vs m c a p _ _) e1 e2

theorem one_eq (t : Fin cfg0.N) : value (iblk m c 4 t) 128 = fun _ _ => 1 := by
  funext b k; unfold value; rw [dif_neg (show ¬(128 : Fin 144).val < 128 by decide)]

/-- What a grid point stores is the gated attention at its place. -/
theorem stored_eq (hq : Finite4 (qs m c)) (hk : Finite4 (ks m c)) (hc : Finite3 (cs m c)) (t : Fin cfg0.N) (q : Fin 1024) (f : Fin 128) :
    stored (iblk m c 0 t) (iblk m c 1 t) (iblk m c 2 t) (iblk m c 3 t) (iblk m c 4 t) (iblk m c 5 t) (t.val % 4) q f
      = gated (qs m c) (ks m c) (vs m c) (cs m c) (gs m c) (seq t) (query t q) (feature t f) := by
  have hn : (if q.val < 512 then 2 * (t.val % 4) + 1 else 2 * (t.val % 4) + 2) = (query t q).val / 512 + 1 := by
    show _ = (t.val % 4 * 1024 + q.val) / 512 + 1
    split <;> omega
  unfold stored gated attended
  rw [blk5, read19, value_eq, one_eq, hn]
  congr 1
  by_cases hf : f.val / 64 = 0
  · have hh : head t 0 (by norm_num) = ⟨(feature t f).val / 64, by omega⟩ := Fin.ext (by show t.val / 4 % 8 * 2 + 0 = (t.val / 4 % 8 * 128 + f.val) / 64; omega)
    rw [if_pos hf, score_eq m c hq hk hc t 0 (by norm_num) q, hh]
  · have hh : head t 1 (by norm_num) = ⟨(feature t f).val / 64, by omega⟩ := Fin.ext (by show t.val / 4 % 8 * 2 + 1 = (t.val / 4 % 8 * 128 + f.val) / 64; omega)
    rw [if_neg hf, score_eq m c hq hk hc t 1 (by norm_num) q, hh]

/-- What the body leaves in the output's buffer, in each of its four cases. -/
theorem outs (t : Fin cfg0.N) (q : Fin 1024) (f : Fin 128) : outsAt0 m c t.val t.isLt (ix3 0 q f)
    = stored (iblk m c 0 t) (iblk m c 1 t) (iblk m c 2 t) (iblk m c 3 t) (iblk m c 4 t) (iblk m c 5 t) (t.val % 4) q f := by
  by_cases h0 : 1 ≤ t.val % 4
  · by_cases h1 : t.val % 4 ≠ 1
    · by_cases h2 : t.val % 4 ≠ 2
      · have h : t.val % 4 = 3 := by omega
        exact (congrFun (outsAt0_D m c t h0 h1 h2) _).trans ((outD ..).trans (by rw [h]))
      · have h : t.val % 4 = 2 := by omega
        exact (congrFun (outsAt0_C m c t h0 h1 h2) _).trans ((outC ..).trans (by rw [h]))
    · have h : t.val % 4 = 1 := by omega
      exact (congrFun (outsAt0_B m c t h0 h1) _).trans ((outB ..).trans (by rw [h]))
  · have h : t.val % 4 = 0 := by omega
    exact (congrFun (outsAt0_A m c t h0) _).trans ((outA ..).trans (by rw [h]))

/-- The whole result. -/
def result : Vec Ideal S8x4096x1024 .bf16 := fun j => gated (qs m c) (ks m c) (vs m c) (cs m c) (gs m c) (j 0) (j 1) (j 2)

/-- The array that the call leaves. -/
theorem final (hq : Finite4 (qs m c)) (hk : Finite4 (ks m c)) (hc : Finite3 (cs m c)) :
    (dats m 0 c).arrAt 6 cfg0.N = result m c := by
  refine (dats m 0 c).arrAt_eq_of_covers 6 _ (by decide +kernel) fun t hf y => ?_
  blk_simp
  rw [after0_6]
  idx_vars y
  have hy : y0 = 0 := Subsingleton.elim _ _
  subst hy
  have he : result m c (((View.whole main_v48).slice (win0_6.rect t)).emb (ix3 0 y1 y2)) = result m c (ix3 (seq t) (query t y1) (feature t y2)) := by
    blk_ext [seq, query, feature, idx t]
  exact ((outs m c t y1 y2).trans (stored_eq m c hq hk hc t y1 y2)).trans he.symm

end Cert.KernelIdeal.Final
-- ==== Proof.Ref.lean ====
/- The reference's value: at every position and feature the gated attention of its arguments. -/
module

public import proofs.«01_k».proof.Proof.Logit
public import proofs.«01_k».proof.Proof.Gen.ReferenceIdeal.Run

@[expose] public section

set_option maxRecDepth 16384

noncomputable section

namespace Cert.ReferenceIdeal.Final

open Cert.ReferenceIdeal Cert.ReferenceIdeal.Gen Idealize.ShloMosaic Idealize.ShloMosaic.TcCoe Idealize.SL.Sem Cert.Row

/-- The logits, the keys after the query hidden. -/
def masked (q k : FVec Ideal S8x4096x16x64 .f32) (c : FVec Ideal S8x4096x16 .f32) : FVec Ideal S8x16x4096x4096 .f32 :=
  select (broadcastInDim S8x16x4096x4096 ![2, 3] bcast_S4096x4096_S8x16x4096x4096_2_3
      (cmpi .sle (broadcastInDim S4096x4096 ![0, 1] bcast_S1x4096_S4096x4096_0_1 (broadcastInDim S1x4096 ![1] bcast_S4096_S1x4096_1 (iotaInDim S4096 32 0)))
        (broadcastInDim S4096x4096 ![0, 1] bcast_S4096x1_S4096x4096_0_1 (broadcastInDim S4096x1 ![0] bcast_S4096_S4096x1_0 (iotaInDim S4096 32 0)))))
    (subf (addf (mulf (Host.dotGeneral dot_S8x4096x16x64_S8x4096x16x64_S8x16x4096x4096_3_3_1_1_02_02 none q k)
          (broadcastInDim S8x16x4096x4096 ![] bcast_S_S8x16x4096x4096 (constant S_ .f32 0x3E000000#32)))
        (broadcastInDim S8x16x4096x4096 ![0, 1, 2, 3] bcast_S8x16x4096x1_S8x16x4096x4096_0_1_2_3
          (broadcastInDim S8x16x4096x1 ![0, 1, 2] bcast_S8x16x4096_S8x16x4096x1_0_1_2 (transpose S8x16x4096 [0, 2, 1] c transposes_S8x4096x16_S8x16x4096_0_2_1))))
      (broadcastInDim S8x16x4096x4096 ![0, 1, 2, 3] bcast_S8x16x1x4096_S8x16x4096x4096_0_1_2_3
        (broadcastInDim S8x16x1x4096 ![0, 1, 3] bcast_S8x16x4096_S8x16x1x4096_0_1_3 (transpose S8x16x4096 [0, 2, 1] c transposes_S8x4096x16_S8x16x4096_0_2_1))))
    (broadcastInDim S8x16x4096x4096 ![] bcast_S_S8x16x4096x4096 (id (constant S_ .f32 0xFF800000#32)))

/-- Each row's largest logit. -/
def largest (L : FVec Ideal S8x16x4096x4096 .f32) : FVec Ideal S8x16x4096 .f32 :=
  Host.reduce FloatOps.maximumf L (constant S_ .f32 0xFF800000#32) reducesTo_S8x16x4096x4096_S8x16x4096_d3 h_S_
def lowest : FVec Ideal S8x16x4096 .f32 := broadcastInDim S8x16x4096 ![] bcast_S_S8x16x4096 (constant S_ .f32 0xFF800000#32)
def top (L : FVec Ideal S8x16x4096x4096 .f32) : FVec Ideal S8x16x4096 .f32 := maximumf lowest (largest L)

/-- A row's number, repeated over its keys. -/
def spread (x : FVec Ideal S8x16x4096 .f32) : FVec Ideal S8x16x4096x4096 .f32 :=
  broadcastInDim S8x16x4096x4096 ![0, 1, 2, 3] bcast_S8x16x4096x1_S8x16x4096x4096_0_1_2_3 (broadcastInDim S8x16x4096x1 ![0, 1, 2] bcast_S8x16x4096_S8x16x4096x1_0_1_2 x)

/-- The exponentials, and their quotient by their row's sum. -/
def weights (L : FVec Ideal S8x16x4096x4096 .f32) : FVec Ideal S8x16x4096x4096 .f32 := Host.exp (subf L (spread (top L)))
def probs (E : FVec Ideal S8x16x4096x4096 .f32) : FVec Ideal S8x16x4096x4096 .f32 :=
  Host.divf E (spread (Host.reduceAdd E (constant S_ .f32 0x00000000#32) reducesTo_S8x16x4096x4096_S8x16x4096_d3 h_S_))

/-- The weighted values times the sigmoid of the gate. -/
def mixed (v : FVec Ideal S8x4096x16x64 .f32) (P : FVec Ideal S8x16x4096x4096 .f32) (g : FVec Ideal S8x4096x1024 .f32) : FVec Ideal S8x4096x1024 .bf16 :=
  truncf .bf16 (mulf (shapeCast S8x4096x1024 (transpose S8x4096x16x64 [0, 3, 1, 2]
      (Host.dotGeneral dot_S8x4096x16x64_S8x16x4096x4096_S8x16x64x4096_1_3_3_2_02_01 none v P) transposes_S8x16x64x4096_S8x4096x16x64_0_3_1_2) shapeCasts_S8x4096x16x64_S8x4096x1024)
    (Host.divf (broadcastInDim S8x4096x1024 ![] bcast_S_S8x4096x1024 (constant S_ .f32 0x3F800000#32))
      (addf (broadcastInDim S8x4096x1024 ![] bcast_S_S8x4096x1024 (constant S_ .f32 0x3F800000#32)) (Host.exp (Host.negf g))))) bitsLt_bf16_f32

/-- The largest number of a row, at any extents. -/
theorem reduce_last {A B C D : ℕ} (L : (⟨4, ![A, B, C, D]⟩ : Shape).Idx → EReal) (init : S_.Idx → EReal) (hi : init (Shape.Idx.first h_S_) = ⊥)
    (h' : (⟨4, ![A, B, C, D]⟩ : Shape).ReducesTo [3] ⟨3, ![A, B, C]⟩) (hr : (⟨4, ![A, B, C, D]⟩ : Shape).Reduces [3] ⟨3, ![A, B, C]⟩) (b : Fin A) (h : Fin B) (t : Fin C) :
    Host.reduce (FloatOps.maximumf (F := Ideal) (φ := .f32)) L init h' h_S_ (ix3 b h t) = Finset.univ.fold max ⊥ fun κ : Fin D => L (ix4 b h t κ) := by
  refine (Host.reduce_eq_fold_single _ _ _ _ hr _ _).trans ?_
  have hl : ∀ κ : Fin D, hr.lift (ix3 b h t) κ = ix4 b h t κ := by
    intro κ; funext a; apply Fin.ext; fin_cases a <;> rfl
  rw [hi]
  refine Finset.fold_congr fun κ _ => ?_
  exact congrArg L (hl κ)

/-- The word of minus infinity. -/
theorem low : Ideal.ofBits .f32 0xFF800000#32 = ⊥ := by simp [Ideal.ofBits, Ideal.ieee]

theorem largest_at (L : FVec Ideal S8x16x4096x4096 .f32) (b : Fin 8) (h : Fin 16) (t : Fin 4096) :
    largest L (ix3 b h t) = Finset.univ.fold max ⊥ fun κ : Fin 4096 => L (ix4 b h t κ) :=
  reduce_last L (constant (F := Ideal) S_ .f32 0xFF800000#32) low reducesTo_S8x16x4096x4096_S8x16x4096_d3 (by decide) b h t

theorem max_at (x y : FVec Ideal S8x16x4096 .f32) (j : S8x16x4096.Idx) : maximumf x y j = (max (x j : EReal) (y j : EReal) : EReal) := rfl

theorem max_of_bot (x y : EReal) (h : x = ⊥) : max x y = y := by rw [h, max_eq_right bot_le]

theorem top_at (L : FVec Ideal S8x16x4096x4096 .f32) (b : Fin 8) (h : Fin 16) (t : Fin 4096) :
    top L (ix3 b h t) = Finset.univ.fold max ⊥ fun κ : Fin 4096 => L (ix4 b h t κ) := by
  refine Eq.trans ?_ (largest_at L b h t)
  have hl : lowest (ix3 b h t) = (⊥ : EReal) := low
  have ht : top L (ix3 b h t) = (max (lowest (ix3 b h t) : EReal) (largest L (ix3 b h t) : EReal) : EReal) := by unfold top; exact max_at _ _ _
  exact ht.trans (max_of_bot _ _ hl)

theorem probs_at (E : FVec Ideal S8x16x4096x4096 .f32) (b : Fin 8) (h : Fin 16) (t κ : Fin 4096) :
    probs E (ix4 b h t κ) = Ideal.div (E (ix4 b h t κ)) (∑ x, E (ix4 b h t x)) := by
  pointwise [probs, spread]

theorem weights_at (L : FVec Ideal S8x16x4096x4096 .f32) (b : Fin 8) (h : Fin 16) (t κ : Fin 4096) :
    weights L (ix4 b h t κ) = Ideal.exp (L (ix4 b h t κ) - top L (ix3 b h t)) := by
  pointwise [weights, spread]

theorem mixed_at (v : FVec Ideal S8x4096x16x64 .f32) (P : FVec Ideal S8x16x4096x4096 .f32) (g : FVec Ideal S8x4096x1024 .f32) (b : Fin 8) (t : Fin 4096) (f : Fin 1024) :
    mixed v P g (ix3 b t f) = (∑ x, v (ix4 b x ⟨f.val / 64, by omega⟩ ⟨f.val % 64, by omega⟩) * P (ix4 b ⟨f.val / 64, by omega⟩ t x)) * Ideal.div 1 (1 + Ideal.exp (-g (ix3 b t f))) := by
  pointwise [mixed]

/-- Comparing two positions as words. -/
theorem sle_pos (κ t : Fin 4096) : IntOp.cmpi CmpIPredicate.sle (BitVec.ofNat 32 κ.val) (BitVec.ofNat 32 t.val) = if κ.val ≤ t.val then 1#1 else 0#1 := by
  have e : ∀ n : Fin 4096, (BitVec.ofNat 32 n.val).toInt = n.val := fun n => by
    rw [BitVec.toInt_eq_toNat_of_lt (by simp; omega)]; simp; omega
  simp only [IntOp.cmpi, BitVec.sle, e]
  by_cases h : κ.val ≤ t.val
  · rw [if_pos h, decide_eq_true (by exact_mod_cast h)]; rfl
  · rw [if_neg h, decide_eq_false (by exact_mod_cast h)]; rfl

theorem masked_at (q k : FVec Ideal S8x4096x16x64 .f32) (c : FVec Ideal S8x4096x16 .f32) (b : Fin 8) (h : Fin 16) (t κ : Fin 4096) :
    masked q k c (ix4 b h t κ) = if κ.val ≤ t.val then
      (∑ x, q (ix4 b t h x) * k (ix4 b κ h x)) * Ideal.ofBits FTy.f32 1040187392#32 + c (ix3 b t h) - c (ix3 b κ h) else ⊥ := by
  pointwise [masked]
  rw [sle_pos]
  split
  · rfl
  · exact low

/-- On finite inputs the masked logits are the logits. -/
theorem masked_eq (q k : FVec Ideal S8x4096x16x64 .f32) (c : FVec Ideal S8x4096x16 .f32)
    (hq : ∀ j, q j = ((q j).toReal : EReal)) (hk : ∀ j, k j = ((k j).toReal : EReal)) (hc : ∀ j, c j = ((c j).toReal : EReal)) (b : Fin 8) (h : Fin 16) (t κ : Fin 4096) :
    masked q k c (ix4 b h t κ) = logits (logit (fun b t h d => q (ix4 b t h d)) (fun b t h d => k (ix4 b t h d)) (fun b t h => c (ix3 b t h)) b h t) t.val κ.val := by
  have he : Ideal.ofBits FTy.f32 1040187392#32 = ((1 / 8 : ℝ) : EReal) := by
    simp [Ideal.ofBits, Ideal.ieee, -EReal.coe_mul]; norm_num
  rw [masked_at, he]
  unfold logits logit
  simp only [at4096_val]
  split
  · have hs : (∑ x : Fin 64, q (ix4 b t h x) * k (ix4 b κ h x)) = ((∑ x : Fin 64, (q (ix4 b t h x)).toReal * (k (ix4 b κ h x)).toReal : ℝ) : EReal) := by
      rw [← sum_coe]
      refine Finset.sum_congr rfl fun x _ => ?_
      rw [EReal.coe_mul, ← hq, ← hk]
    rw [hs, EReal.coe_sub, EReal.coe_add, EReal.coe_mul, ← hc, ← hc]
  · rfl

/-- The reference's value, on finite inputs. -/
theorem mixed_eq (q k v : FVec Ideal S8x4096x16x64 .f32) (c : FVec Ideal S8x4096x16 .f32) (g : FVec Ideal S8x4096x1024 .f32)
    (hq : ∀ j, q j = ((q j).toReal : EReal)) (hk : ∀ j, k j = ((k j).toReal : EReal)) (hc : ∀ j, c j = ((c j).toReal : EReal)) (b : Fin 8) (t : Fin 4096) (f : Fin 1024) :
    mixed v (probs (weights (masked q k c))) g (ix3 b t f)
      = gated (fun b t h d => q (ix4 b t h d)) (fun b t h d => k (ix4 b t h d)) (fun b t h d => v (ix4 b t h d)) (fun b t h => c (ix3 b t h)) (fun b t f => g (ix3 b t f)) b t f := by
  rw [mixed_at]
  unfold gated attended
  refine congrArg (· * _) ?_
  set X := logit (fun b t h d => q (ix4 b t h d)) (fun b t h d => k (ix4 b t h d)) (fun b t h => c (ix3 b t h)) b ⟨f.val / 64, by omega⟩ t with hX
  have hm : ∀ κ : Fin 4096, masked q k c (ix4 b ⟨f.val / 64, by omega⟩ t κ) = logits X t.val κ.val := fun κ => masked_eq q k c hq hk hc b _ t κ
  have htop : ∃ r : ℝ, top (masked q k c) (ix3 b ⟨f.val / 64, by omega⟩ t) = (r : EReal) := by
    rw [top_at]
    simp only [hm]
    refine fold_real _ (fun κ => ?_) t ?_
    · unfold logits; split
      · exact EReal.coe_ne_top _
      · exact bot_ne_top
    · unfold logits; rw [if_pos le_rfl]; exact EReal.coe_ne_bot _
  obtain ⟨r, hr⟩ := htop
  have hw : ∀ κ : Fin 4096, weights (masked q k c) (ix4 b ⟨f.val / 64, by omega⟩ t κ) = Ideal.exp (logits X t.val κ.val - (r : EReal)) := fun κ => by
    rw [weights_at, hm, hr]
  have hp : ∀ κ : Fin 4096, probs (weights (masked q k c)) (ix4 b ⟨f.val / 64, by omega⟩ t κ)
      = Ideal.div (Ideal.exp (logits X t.val κ.val - (r : EReal))) (∑ κ' : Fin 4096, Ideal.exp (logits X t.val κ'.val - (r : EReal))) := fun κ => by
    rw [probs_at]; simp only [hw]
  refine Eq.trans ?_ (row X (fun n => v (ix4 b (at4096 n) ⟨f.val / 64, by omega⟩ ⟨f.val % 64, by omega⟩)) t.val t.isLt r).symm
  refine Finset.sum_congr rfl fun κ _ => ?_
  rw [hp, at4096_val]

variable (m : (ℓ : Loc nD τ sig) → Buf (Elt Ideal) ℓ) (c : Dev nD)

/-- The reference's result, as a function of its arguments. -/
theorem res_eq : Value.res_main_v40 m c = mixed (m ((c.tc : Thread nD τ).loc main_arg2)) (probs (weights (masked (m ((c.tc : Thread nD τ).loc main_arg0)) (m ((c.tc : Thread nD τ).loc main_arg1))
    (m ((c.tc : Thread nD τ).loc main_arg3))))) (m ((c.tc : Thread nD τ).loc main_arg4)) := by
  unfold Value.res_main_v40 mixed probs weights top lowest largest masked spread
  rfl

end Cert.ReferenceIdeal.Final
-- ==== Proof.Finite.lean ====
/- The precondition, taken apart: every query, key and cumulative gate is a finite number. -/
module

public import proofs.«01_k».proof.Proof.Logit
public import proofs.«01_k».proof.Proof.Gen.Pre_finite_scores
public import Idealize.ShloMosaic.Lib.ReduceAll

@[expose] public section

set_option maxRecDepth 16384

noncomputable section

namespace Cert.Pre_finite_scores.Finite

open Cert.Pre_finite_scores Cert.Pre_finite_scores.Gen Idealize.ShloMosaic Cert.Row

/-- A number whose absolute value lies below infinity is finite. -/
theorem real_of_lt (x : EReal) (h : FloatOps.cmpf (F := Ideal) (φ := .f32) .olt (FloatOps.hostAbsf (F := Ideal) (φ := .f32) x) (Ideal.ofBits .f32 0x7F800000#32) = 1#1) : x = (x.toReal : EReal) := by
  have htop : Ideal.ofBits .f32 0x7F800000#32 = ⊤ := by simp [Ideal.ofBits, Ideal.ieee]
  rw [htop] at h
  have hl : max x (-x) < ⊤ := by
    by_contra hn
    have h' : Ideal.cmp .olt (max x (-x)) ⊤ = 1#1 := h
    rw [Ideal.cmp, decide_eq_false hn] at h'
    exact absurd h' (by decide)
  have h1 : x ≠ ⊤ := fun e => by rw [e] at hl; exact absurd hl (by simp)
  have h2 : x ≠ ⊥ := fun e => by rw [e] at hl; exact absurd hl (by simp)
  exact (EReal.coe_toReal h1 h2).symm

theorem parts (q k v : FVec Ideal S8x4096x16x64 .f32) (c : FVec Ideal S8x4096x16 .f32) (g : FVec Ideal S8x4096x1024 .f32)
    (h : fn (F := Ideal) q k v c g = fun _ => 1#1) :
    (∀ j, q j = ((q j).toReal : EReal)) ∧ (∀ j, k j = ((k j).toReal : EReal)) ∧ (∀ j, c j = ((c j).toReal : EReal)) := by
  have h0 := congrFun h (fun a => a.elim0)
  unfold fn at h0
  obtain ⟨h1, hc⟩ := IntOp.andi_eq_one.mp h0
  obtain ⟨hq, hk⟩ := IntOp.andi_eq_one.mp h1
  have hq' := fun j => Host.reduce_andi_all _ _ _ _ _ hq j
  have hk' := fun j => Host.reduce_andi_all _ _ _ _ _ hk j
  have hc' := fun j => Host.reduce_andi_all _ _ _ _ _ hc j
  refine ⟨fun j => real_of_lt _ (hq' j), fun j => real_of_lt _ (hk' j), fun j => real_of_lt _ (hc' j)⟩

end Cert.Pre_finite_scores.Finite
-- ==== Proof.FfnMath.lean ====
/- The mathematics of a feed-forward half: a row is normed, two products are gated, and the result goes through the last
   product; the sum over its 2816 hidden features may be taken 256 at a time, each with the factor one half inside. -/
module

public import Idealize.ShloMosaic.PureOps.Ideal
public import Idealize.ShloMosaic.Lib.Pipeline.ValueKit

@[expose] public section

noncomputable section

namespace Cert.Half

open Idealize.ShloMosaic

/-- The words of 1024, of the norm's small number, and of one half. -/
def width : EReal := Ideal.ofBits .f32 0x44800000#32
def tiny : EReal := Ideal.ofBits .f32 0x358637BD#32
def half : EReal := Ideal.ofBits .f32 0x3F000000#32

theorem half_eq : half = ((1 / 2 : ℝ) : EReal) := by
  simp [half, Ideal.ofBits, Ideal.ieee, -EReal.coe_mul]; norm_num

/-- A row over its root mean square, times the gains. -/
def normed (x w : Fin 1024 → EReal) (k : Fin 1024) : EReal :=
  x k * Ideal.rsqrt (Ideal.div (∑ l, x l * x l) width + tiny) * w k

/-- A number times its sigmoid, times a second number. -/
def gated (g u : EReal) : EReal := g * Ideal.div 1 (1 + Ideal.exp (-g)) * u

/-- Hidden feature `f` of a normed row: the gate's column is `f`, the other's is `f + 2816`. -/
def hidden (n : Fin 1024 → EReal) (G : Fin 1024 → Fin 5632 → EReal) (f : Fin 2816) : EReal :=
  gated (∑ k, n k * G k ⟨f.val, by omega⟩) (∑ k, n k * G k ⟨f.val + 2816, by omega⟩)

/-- The feed-forward half's row. -/
def ffn (x w : Fin 1024 → EReal) (G : Fin 1024 → Fin 5632 → EReal) (D : Fin 2816 → Fin 1024 → EReal) (j : Fin 1024) : EReal :=
  x j + half * ∑ f, hidden (normed x w) G f * D f j

/-- A hidden feature, by any number. -/
def at2816 (n : ℕ) : Fin 2816 := ⟨n % 2816, Nat.mod_lt _ (by norm_num)⟩

theorem at2816_val (f : Fin 2816) : at2816 f.val = f := Fin.ext (Nat.mod_eq_of_lt f.isLt)

/-- The row after the first `n` hidden features. -/
def after (x w : Fin 1024 → EReal) (G : Fin 1024 → Fin 5632 → EReal) (D : Fin 2816 → Fin 1024 → EReal) (j : Fin 1024) (n : ℕ) : EReal :=
  x j + ∑ f ∈ Finset.range n, half * hidden (normed x w) G (at2816 f) * D (at2816 f) j

variable (x w : Fin 1024 → EReal) (G : Fin 1024 → Fin 5632 → EReal) (D : Fin 2816 → Fin 1024 → EReal) (j : Fin 1024)

theorem after_zero : after x w G D j 0 = x j := by
  unfold after; rw [Finset.sum_range_zero, add_zero]

/-- Another 256 features. -/
theorem after_add (n : ℕ) : after x w G D j (n + 256)
    = after x w G D j n + ∑ f : Fin 256, half * hidden (normed x w) G (at2816 (n + f.val)) * D (at2816 (n + f.val)) j := by
  unfold after
  rw [Finset.sum_range_add, ← add_assoc, Finset.sum_range (n := 256)]

/-- A finite factor that is not negative moves into a sum. -/
theorem factor {ι : Type} (s : Finset ι) (c : EReal) (h0 : 0 ≤ c) (ht : c ≠ ⊤) (f : ι → EReal) : c * ∑ i ∈ s, f i = ∑ i ∈ s, c * f i := by
  classical
  induction s using Finset.induction_on with
  | empty => simp
  | insert a s ha ih => rw [Finset.sum_insert ha, Finset.sum_insert ha, EReal.left_distrib_of_nonneg_of_ne_top h0 ht, ih]

/-- All 2816 features: the feed-forward half. -/
theorem after_all : after x w G D j 2816 = ffn x w G D j := by
  unfold after ffn
  rw [Finset.sum_range (n := 2816), factor _ half (by rw [half_eq]; exact_mod_cast (by norm_num : (0 : ℝ) ≤ 1 / 2)) (by rw [half_eq]; exact EReal.coe_ne_top _)]
  refine congrArg (x j + ·) (Finset.sum_congr rfl fun f _ => ?_)
  rw [at2816_val, mul_assoc]

end Cert.Half
-- ==== Proof.FfnStep.lean ====
/- One grid step of the feed-forward kernel: what it leaves in the output's block and in the scratch array that keeps the
   normed rows, at the first of a block's eleven steps and at the others. -/
module

public import proofs.«01_k».proof.Proof.FfnMath
public import proofs.«01_k».proof.Proof.Gen.FfnIdeal.Frame

@[expose] public section

set_option maxRecDepth 16384

noncomputable section

namespace Cert.FfnIdeal.Block

open Cert.FfnIdeal Cert.FfnIdeal.Gen Idealize.ShloMosaic Idealize.SL.Sem Cert.Half

/-- The two products of 256 hidden features, gated, halved, and put through the third. -/
def chunk (n : Fin 1024 → EReal) (x2 x3 : Vec Ideal S1x1024x256 .bf16) (x4 : Vec Ideal S256x1024 .bf16) (j : Fin 1024) : EReal :=
  ∑ f : Fin 256, half * gated (∑ k : Fin 1024, n k * x2 (ix3 0 k f)) (∑ k : Fin 1024, n k * x3 (ix3 0 k f)) * x4 (ix2 f j)

theorem pay1 (x : Vec Ideal S1024x1024 .f32) : k0_pay1 x = x := by
  unfold k0_pay1; exact shapeCast_self ..

theorem pay2 (x0 : Vec Ideal S1024x1024 .f32) (x1 : Vec Ideal S1x1024 .f32) (r k : Fin 1024) :
    k0_pay2 x0 x1 (ix2 r k) = normed (fun l => x0 (ix2 r l)) (fun l => x1 (ix2 0 l)) k := by
  unfold normed width tiny
  pointwise [k0_pay2, k0_pay1]

theorem pay3 (n : Vec Ideal S1024x1024 .bf16) (x2 x3 : Vec Ideal S1x1024x256 .bf16) (o : Vec Ideal S1024x1024 .f32) (x4 : Vec Ideal S256x1024 .bf16) (r j : Fin 1024) :
    k0_pay3 n x2 x3 o x4 (ix2 r j) = o (ix2 r j) + chunk (fun k => n (ix2 r k)) x2 x3 x4 j := by
  unfold chunk gated half
  pointwise [k0_pay3]
  simp only [Ideal.logistic]

theorem origin2 : (![0, 0] : Fin 2 → ℕ) = fun _ => 0 := by funext a; fin_cases a <;> rfl
theorem origin3 : (![0, 0, 0] : Fin 3 → ℕ) = fun _ => 0 := by funext a; fin_cases a <;> rfl

/-- A later step adds its 256 features to the block. -/
theorem outB (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (hc0 : ¬cond0_0 i)
    (x0 : Vec Ideal S1024x1024 .f32) (x1 : Vec Ideal S1x1024 .f32) (x2 x3 : Vec Ideal S1x1024x256 .bf16) (x4 : Vec Ideal S256x1024 .bf16) (o : Vec Ideal S1024x1024 .f32) (n : Vec Ideal S1024x1024 .bf16) :
    out0_B_5 c i arg2 harg2 arg3 harg3 arg4 harg4 arg5 harg5 arg6 harg6 arg7 harg7 arg8 harg8 hc0 x0 x1 x2 x3 x4 o n = k0_pay3 n x2 x3 o x4 := by
  unfold out0_B_5
  rw [View.read_writes_junk_eq_canon]
  unfold kernelRun0_B
  dsimp only
  rw [View.canon_unit_zero origin2]
  simp only [View.readAt_eq_ld, harg4.read_unread, harg5.read_unread, harg6.read_unread, harg7.read_unread, harg8.read_unread,
    View.ld_unit_zero (S := S1024x1024) origin2, View.ld_unit_zero (S := S256x1024) origin2, View.ld_unit_zero (S := S1x1024x256) origin3]

/-- The first step stores the normed rows, -/
theorem keptA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (hc0 : cond0_0 i)
    (x0 : Vec Ideal S1024x1024 .f32) (x1 : Vec Ideal S1x1024 .f32) (x2 x3 : Vec Ideal S1x1024x256 .bf16) (x4 : Vec Ideal S256x1024 .bf16) :
    sout0_A_0 c i arg2 harg2 arg3 harg3 arg4 harg4 arg5 harg5 arg6 harg6 arg7 harg7 arg8 harg8 hc0 x0 x1 x2 x3 x4 = k0_pay2 x0 x1 := by
  unfold sout0_A_0
  rw [View.read_writes_junk_eq_canon]
  unfold kernelRun0_A
  dsimp only
  sl_unfold_words
  rw [View.canon_unit_zero origin2]
  simp only [View.readAt_eq_ld, harg2.read_unread, harg3.read_unread,
    View.ld_unit_zero (S := S1024x1024) origin2, View.ld_unit_zero (S := S1x1024) origin2]

/-- and starts the block from the rows themselves. -/
theorem outA (c : Dev nD) (i : grid0.Coords) (arg2 : Memref sig .tc .vmem S1024x1024 .f32) (harg2 : arg2.IsWhole) (arg3 : Memref sig .tc .vmem S1x1024 .f32) (harg3 : arg3.IsWhole) (arg4 : Memref sig .tc .vmem S1x1024x256 .bf16) (harg4 : arg4.IsWhole) (arg5 : Memref sig .tc .vmem S1x1024x256 .bf16) (harg5 : arg5.IsWhole) (arg6 : Memref sig .tc .vmem S256x1024 .bf16) (harg6 : arg6.IsWhole) (arg7 : Memref sig .tc .vmem S1024x1024 .f32) (harg7 : arg7.IsWhole) (arg8 : Memref sig .tc .vmem S1024x1024 .bf16) (harg8 : arg8.IsWhole) (hc0 : cond0_0 i)
    (x0 : Vec Ideal S1024x1024 .f32) (x1 : Vec Ideal S1x1024 .f32) (x2 x3 : Vec Ideal S1x1024x256 .bf16) (x4 : Vec Ideal S256x1024 .bf16) :
    out0_A_5 c i arg2 harg2 arg3 harg3 arg4 harg4 arg5 harg5 arg6 harg6 arg7 harg7 arg8 harg8 hc0 x0 x1 x2 x3 x4 = k0_pay3 (k0_pay2 x0 x1) x2 x3 (k0_pay1 x0) x4 := by
  unfold out0_A_5
  rw [View.read_writes_junk_eq_canon]
  unfold kernelRun0_A
  dsimp only
  sl_unfold_words
  rw [View.canon_cons_unit_zero (S := S1024x1024) origin2, View.readCov_unit_zero (S := S1024x1024) _ origin2, View.readCov_unit_zero (S := S1024x1024) _ origin2]
  simp only [View.readAt_eq_ld, harg2.read_unread, harg3.read_unread, harg4.read_unread, harg5.read_unread, harg6.read_unread,
    View.ld_unit_zero (S := S1024x1024) origin2, View.ld_unit_zero (S := S1x1024) origin2, View.ld_unit_zero (S := S256x1024) origin2, View.ld_unit_zero (S := S1x1024x256) origin3]

end Cert.FfnIdeal.Block
-- ==== Proof.FfnArray.lean ====
/- The array that the feed-forward kernel leaves: at every row and feature the feed-forward half of the call's arguments. -/
module

public import proofs.«01_k».proof.Proof.FfnStep
public import proofs.«01_k».proof.Proof.Gen.FfnIdeal.Value
public import Idealize.ShloMosaic.Lib.StableHlo.ReadAt
public import Idealize.ShloMosaic.Lib.Pipeline.Covers

@[expose] public section

set_option maxRecDepth 16384

noncomputable section

namespace Cert.FfnIdeal.Final

open Cert.FfnIdeal Cert.FfnIdeal.Gen Idealize.ShloMosaic Idealize.ShloMosaic.TcCoe Idealize.SL.Sem Cert.Half Cert.FfnIdeal.Block
open Idealize.ShloMosaic.Pipeline (Dat)

variable (m : (ℓ : Loc nD τ sig) → Buf (Elt Ideal) ℓ) (c : Dev nD)

/-- The rows, the gains, the two weights, at the call. -/
def rows (r : Fin 32768) (k : Fin 1024) : EReal := m (c, Proc.tc.devRef main_arg0) (ix3 ⟨r.val / 4096, by omega⟩ ⟨r.val % 4096, by omega⟩ k)
def gains (k : Fin 1024) : EReal := m (c, Proc.tc.devRef main_arg1) (ix1 k)
def into (k : Fin 1024) (f : Fin 5632) : EReal := m (c, Proc.tc.devRef main_arg2) (ix2 k f)
def back (f : Fin 2816) (j : Fin 1024) : EReal := m (c, Proc.tc.devRef main_arg3) (ix2 f j)

/-- Which blocks a grid point reads and writes: point `t` is block of rows `t / 11`, and hidden features `t % 11`. -/
theorem idx : ∀ t : Fin cfg0.N, win0_0.index t = ![t.val / 11, 0] ∧ win0_1.index t = ![0, 0] ∧ win0_2.index t = ![t.val % 11, 0, 0]
    ∧ win0_3.index t = ![t.val % 11 + 11, 0, 0] ∧ win0_4.index t = ![t.val % 11, 0] ∧ win0_5.index t = ![t.val / 11, 0] ∧ t.val < 352 :=
  (by decide +kernel : ∀ t : Fin grid0.N, _)

theorem lt352 (t : Fin cfg0.N) : t.val < 352 := (idx t).2.2.2.2.2.2

/-- Row `r` of a grid point's block. -/
def row (t : Fin cfg0.N) (r : Fin 1024) : Fin 32768 := ⟨t.val / 11 * 1024 + r.val, by have := lt352 t; omega⟩

/-- What the host's arrays hold: the weights into the hidden features in 22 tiles of 256 columns, and the rest as it is. -/
theorem read2 (n : Fin 22) (k : Fin 1024) (f : Fin 256) : V m c main_v2 (ix3 n k f) = into m c k ⟨n.val * 256 + f.val, by omega⟩ := by
  unfold V; after_reads_at
  rfl

theorem read3 (r : Fin 32768) (k : Fin 1024) : V m c main_v3 (ix2 r k) = rows m c r k := by
  unfold V; after_reads_at
  rfl

theorem read4 (f : Fin 2816) (j : Fin 1024) : V m c main_v4 (ix2 f j) = back m c f j := by
  unfold V; after_reads_at
  rfl

theorem read5 (k : Fin 1024) : V m c main_v5 (ix2 0 k) = gains m c k := by
  unfold V; after_reads_at
  rfl

/-- The blocks of a grid point. -/
theorem blk0 (t : Fin cfg0.N) (r k : Fin 1024) : iblk m c 0 t (ix2 r k) = rows m c (row t r) k := by
  rw [← read3]; blk_ext [iblk, row, idx t]

theorem blk1 (t : Fin cfg0.N) (k : Fin 1024) : iblk m c 1 t (ix2 0 k) = gains m c k := by
  rw [← read5]; blk_ext [iblk, idx t]

theorem blk2 (t : Fin cfg0.N) (k : Fin 1024) (f : Fin 256) : iblk m c 2 t (ix3 0 k f) = into m c k ⟨t.val % 11 * 256 + f.val, by omega⟩ := by
  refine Eq.trans ?_ (read2 m c ⟨t.val % 11, by omega⟩ k f); blk_ext [iblk, idx t]

theorem blk3 (t : Fin cfg0.N) (k : Fin 1024) (f : Fin 256) : iblk m c 3 t (ix3 0 k f) = into m c k ⟨(t.val % 11 + 11) * 256 + f.val, by omega⟩ := by
  refine Eq.trans ?_ (read2 m c ⟨t.val % 11 + 11, by omega⟩ k f); blk_ext [iblk, idx t]

theorem blk4 (t : Fin cfg0.N) (f : Fin 256) (j : Fin 1024) : iblk m c 4 t (ix2 f j) = back m c ⟨t.val % 11 * 256 + f.val, by omega⟩ j := by
  rw [← read4]; blk_ext [iblk, idx t]

/-- A row's normed values. -/
abbrev norm (r : Fin 32768) : Fin 1024 → EReal := normed (rows m c r) (gains m c)

/-- A step's products are its 256 terms of the row's sum. -/
theorem chunk_eq (t : Fin cfg0.N) (r : Fin 32768) (j : Fin 1024) :
    chunk (norm m c r) (iblk m c 2 t) (iblk m c 3 t) (iblk m c 4 t) j
      = ∑ f : Fin 256, half * Half.hidden (norm m c r) (into m c) (at2816 (256 * (t.val % 11) + f.val)) * back m c (at2816 (256 * (t.val % 11) + f.val)) j := by
  unfold chunk Half.hidden
  refine Finset.sum_congr rfl fun f _ => ?_
  have e : at2816 (256 * (t.val % 11) + f.val) = ⟨t.val % 11 * 256 + f.val, by omega⟩ := Fin.ext (by show (256 * (t.val % 11) + f.val) % 2816 = _; rw [Nat.mod_eq_of_lt (by omega)]; show _ = t.val % 11 * 256 + f.val; omega)
  have e3 : ∀ k, iblk m c 3 t (ix3 0 k f) = into m c k ⟨t.val % 11 * 256 + f.val + 2816, by omega⟩ := fun k =>
    (blk3 m c t k f).trans (congrArg (into m c k) (Fin.ext (by show (t.val % 11 + 11) * 256 + f.val = t.val % 11 * 256 + f.val + 2816; omega)))
  rw [e, blk4]
  simp only [blk2, e3]

/-- The first step's normed rows. -/
theorem normed_blk (t : Fin cfg0.N) (r k : Fin 1024) : k0_pay2 (iblk m c 0 t) (iblk m c 1 t) (ix2 r k) = norm m c (row t r) k := by
  rw [pay2]
  simp only [blk0, blk1]

/-- A grid point's two arrays, at a block's first step and at a later one. -/
theorem first_out (t : Fin cfg0.N) (h : t.val % 11 = 0) : (outsAt0 m c t.val t.isLt).1
    = k0_pay3 (k0_pay2 (iblk m c 0 t) (iblk m c 1 t)) (iblk m c 2 t) (iblk m c 3 t) (k0_pay1 (iblk m c 0 t)) (iblk m c 4 t) := by
  rw [outsAt0_A m c t h]
  dsimp only
  rw [outA]

theorem first_kept (t : Fin cfg0.N) (h : t.val % 11 = 0) : (outsAt0 m c t.val t.isLt).2 = k0_pay2 (iblk m c 0 t) (iblk m c 1 t) := by
  rw [outsAt0_A m c t h]
  dsimp only
  rw [keptA]

theorem next_out (t : Fin cfg0.N) (h : ¬t.val % 11 = 0) : (outsAt0 m c t.val t.isLt).1
    = k0_pay3 (outsAt0 m c (t.val - 1) (Nat.lt_of_le_of_lt (Nat.sub_le _ _) t.isLt)).2 (iblk m c 2 t) (iblk m c 3 t)
        (outsAt0 m c (t.val - 1) (Nat.lt_of_le_of_lt (Nat.sub_le _ _) t.isLt)).1 (iblk m c 4 t) := by
  rw [outsAt0_B m c t h]
  dsimp only
  rw [outB]

theorem next_kept (t : Fin cfg0.N) (h : ¬t.val % 11 = 0) :
    (outsAt0 m c t.val t.isLt).2 = (outsAt0 m c (t.val - 1) (Nat.lt_of_le_of_lt (Nat.sub_le _ _) t.isLt)).2 := by
  rw [outsAt0_B m c t h]
  rfl

/-- What a block's buffer and the scratch array hold after a grid point: the rows after its steps so far, and the normed rows. -/
def Holds (t : Fin cfg0.N) : Prop := ∀ r : Fin 1024,
  (∀ j, (outsAt0 m c t.val t.isLt).1 (ix2 r j) = after (rows m c (row t r)) (gains m c) (into m c) (back m c) j (256 * (t.val % 11) + 256))
    ∧ ∀ k, (outsAt0 m c t.val t.isLt).2 (ix2 r k) = norm m c (row t r) k

theorem holds_first (t : Fin cfg0.N) (h : t.val % 11 = 0) : Holds m c t := by
  refine fun r => ⟨fun j => ?_, fun k => ?_⟩
  · refine (congrFun (first_out m c t h) _).trans ((pay3 ..).trans ?_)
    have hn : (fun k => k0_pay2 (iblk m c 0 t) (iblk m c 1 t) (ix2 r k)) = norm m c (row t r) := funext fun k => normed_blk m c t r k
    rw [hn, after_add, ← chunk_eq, pay1, blk0, h, mul_zero, after_zero]
  · exact (congrFun (first_kept m c t h) _).trans (normed_blk m c t r k)

theorem holds_next (t s : Fin cfg0.N) (hs : s.val = t.val - 1) (h : ¬t.val % 11 = 0) (ih : Holds m c s) : Holds m c t := by
  obtain rfl : s = ⟨t.val - 1, Nat.lt_of_le_of_lt (Nat.sub_le _ _) t.isLt⟩ := Fin.ext hs
  intro r
  have hr : row ⟨t.val - 1, Nat.lt_of_le_of_lt (Nat.sub_le _ _) t.isLt⟩ r = row t r :=
    Fin.ext (by show (t.val - 1) / 11 * 1024 + r.val = t.val / 11 * 1024 + r.val; omega)
  obtain ⟨h1, h2⟩ := ih r
  rw [hr] at h1 h2
  refine ⟨fun j => ?_, fun k => ?_⟩
  · refine (congrFun (next_out m c t h) _).trans ((pay3 ..).trans ?_)
    have hn : (fun k => (outsAt0 m c (t.val - 1) (Nat.lt_of_le_of_lt (Nat.sub_le _ _) t.isLt)).2 (ix2 r k)) = norm m c (row t r) := funext h2
    have hm : 256 * ((t.val - 1) % 11) + 256 = 256 * (t.val % 11) := by omega
    rw [hn, after_add, ← chunk_eq]
    refine congrArg (· + _) ((h1 j).trans ?_)
    rw [show (⟨t.val - 1, Nat.lt_of_le_of_lt (Nat.sub_le _ _) t.isLt⟩ : Fin cfg0.N).val = t.val - 1 from rfl, hm]
  · exact (congrFun (next_kept m c t h) _).trans (h2 k)

theorem holds : ∀ (n : ℕ) (h : n < cfg0.N), Holds m c ⟨n, h⟩
  | 0, h => holds_first m c ⟨0, h⟩ (Nat.zero_mod _)
  | n + 1, h => by
    by_cases h0 : (n + 1) % 11 = 0
    · exact holds_first m c ⟨n + 1, h⟩ h0
    · exact holds_next m c ⟨n + 1, h⟩ ⟨n, Nat.lt_of_succ_lt h⟩ rfl h0 (holds n (Nat.lt_of_succ_lt h))

/-- The whole result. -/
def result : Vec Ideal S32768x1024 .f32 := fun i => ffn (rows m c (i 0)) (gains m c) (into m c) (back m c) (i 1)

/-- The array that the call leaves. -/
theorem final : (dats m 0 c).arrAt 5 cfg0.N = result m c := by
  refine (dats m 0 c).arrAt_eq_of_covers 5 _ (by decide +kernel) fun t hf y => ?_
  have ht : t.val % 11 = 10 := (flush0_5 t).mp hf
  blk_simp
  rw [after0_5]
  idx_vars y
  have he : result m c (((View.whole main_v6).slice (win0_5.rect t)).emb (ix2 y0 y1)) = result m c (ix2 (row t y0) y1) := by
    blk_ext [row, idx t]
  refine Eq.trans ((holds m c t.val t.isLt y0).1 y1) (Eq.trans ?_ he.symm)
  show after _ _ _ _ _ (256 * (t.val % 11) + 256) = ffn _ _ _ _ _
  rw [ht]
  exact after_all ..

end Cert.FfnIdeal.Final
-- ==== Proof.FfnRef.lean ====
/- The feed-forward reference's value: at every row and feature the feed-forward half of its arguments. -/
module

public import proofs.«01_k».proof.Proof.FfnMath
public import proofs.«01_k».proof.Proof.Gen.FfnReferenceIdeal.Run

@[expose] public section

set_option maxRecDepth 16384

noncomputable section

namespace Cert.FfnReferenceIdeal.Final

open Cert.FfnReferenceIdeal Cert.FfnReferenceIdeal.Gen Idealize.ShloMosaic Idealize.ShloMosaic.TcCoe Idealize.SL.Sem Cert.Half

/-- The rows of both leading axes. -/
def flat (x : FVec Ideal S8x4096x1024 .f32) : FVec Ideal S32768x1024 .f32 := shapeCast _ x shapeCasts_S8x4096x1024_S32768x1024

/-- The normed rows. -/
def norms (h : FVec Ideal S32768x1024 .f32) (w : FVec Ideal S1024 .f32) : FVec Ideal S32768x1024 .f32 :=
  mulf (mulf h (broadcastInDim S32768x1024 ![0, 1] bcast_S32768x1_S32768x1024_0_1 (Host.rsqrt (addf (Host.divf
        (broadcastInDim S32768x1 ![0] bcast_S32768_S32768x1_0 (Host.reduceAdd (mulf h h) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The first product. -/
def wide (n : FVec Ideal S32768x1024 .f32) (G : FVec Ideal S1024x5632 .f32) : FVec Ideal S32768x5632 .f32 :=
  Host.dotGeneral dot_S32768x1024_S1024x5632_S32768x5632_1_0_0_1_n_n none n G

/-- Its two halves, gated. -/
def gates (p : FVec Ideal S32768x5632 .f32) : FVec Ideal S32768x2816 .f32 :=
  mulf (mulf (extractStridedSlice S32768x2816 ![0, 0] p slices_S32768x5632_S32768x2816_0_0)
      (Host.divf (broadcastInDim S32768x2816 ![] bcast_S_S32768x2816 (constant S_ .f32 0x3F800000#32))
        (addf (broadcastInDim S32768x2816 ![] bcast_S_S32768x2816 (constant S_ .f32 0x3F800000#32))
          (Host.exp (Host.negf (extractStridedSlice S32768x2816 ![0, 0] p slices_S32768x5632_S32768x2816_0_0))))))
    (extractStridedSlice S32768x2816 ![0, 2816] p slices_S32768x5632_S32768x2816_0_2816)

/-- The rows and half of the last product. -/
def added (h : FVec Ideal S32768x1024 .f32) (a : FVec Ideal S32768x2816 .f32) (D : FVec Ideal S2816x1024 .f32) : FVec Ideal S32768x1024 .f32 :=
  addf h (mulf (broadcastInDim S32768x1024 ![] bcast_S_S32768x1024 (constant S_ .f32 0x3F000000#32))
    (Host.dotGeneral dot_S32768x2816_S2816x1024_S32768x1024_1_0_0_1_n_n none a D))

theorem flat_at (x : FVec Ideal S8x4096x1024 .f32) (r : Fin 32768) (k : Fin 1024) :
    flat x (ix2 r k) = x (ix3 ⟨r.val / 4096, by omega⟩ ⟨r.val % 4096, by omega⟩ k) := by
  pointwise [flat]

theorem norms_at (h : FVec Ideal S32768x1024 .f32) (w : FVec Ideal S1024 .f32) (r : Fin 32768) (k : Fin 1024) :
    norms h w (ix2 r k) = normed (fun l => h (ix2 r l)) (fun l => w (ix1 l)) k := by
  unfold normed width tiny
  pointwise [norms]

theorem wide_at (n : FVec Ideal S32768x1024 .f32) (G : FVec Ideal S1024x5632 .f32) (r : Fin 32768) (f : Fin 5632) :
    wide n G (ix2 r f) = ∑ k : Fin 1024, n (ix2 r k) * G (ix2 k f) := by
  pointwise [wide]

theorem gates_at (p : FVec Ideal S32768x5632 .f32) (r : Fin 32768) (f : Fin 2816) :
    gates p (ix2 r f) = gated (p (ix2 r ⟨f.val, by omega⟩)) (p (ix2 r ⟨f.val + 2816, by omega⟩)) := by
  have e : (⟨2816 + f.val, by omega⟩ : Fin 5632) = ⟨f.val + 2816, by omega⟩ := Fin.ext (Nat.add_comm ..)
  unfold gated
  pointwise [gates]
  rw [e]

theorem added_at (h : FVec Ideal S32768x1024 .f32) (a : FVec Ideal S32768x2816 .f32) (D : FVec Ideal S2816x1024 .f32) (r : Fin 32768) (j : Fin 1024) :
    added h a D (ix2 r j) = h (ix2 r j) + half * ∑ f : Fin 2816, a (ix2 r f) * D (ix2 f j) := by
  unfold half
  pointwise [added]

/-- The reference's value. -/
theorem value (x : FVec Ideal S8x4096x1024 .f32) (w : FVec Ideal S1024 .f32) (G : FVec Ideal S1024x5632 .f32) (D : FVec Ideal S2816x1024 .f32) (r : Fin 32768) (j : Fin 1024) :
    added (flat x) (gates (wide (norms (flat x) w) G)) D (ix2 r j)
      = ffn (fun k => x (ix3 ⟨r.val / 4096, by omega⟩ ⟨r.val % 4096, by omega⟩ k)) (fun k => w (ix1 k)) (fun k f => G (ix2 k f)) (fun f j => D (ix2 f j)) j := by
  rw [added_at]
  simp only [gates_at, wide_at, norms_at, flat_at]
  rfl

end Cert.FfnReferenceIdeal.Final
-- ==== Proof.KvMath.lean ====
/- The mathematics of the shared keys, values and log gates: a head's 64 numbers over their root mean square, whether the
   squares are added by head or by a product with the heads' lanes, and the logarithm of a sigmoid in two spellings. -/
module

public import proofs.«01_k».proof.Proof.FfnMath

@[expose] public section

noncomputable section

namespace Cert.Shared

open Idealize.ShloMosaic Cert.Half

/-- The words of 64 and of a sixty-fourth. -/
def size : EReal := Ideal.ofBits .f32 0x42800000#32
def part : EReal := Ideal.ofBits .f32 0x3C800000#32

theorem size_eq : size = ((64 : ℝ) : EReal) := by
  simp [size, Ideal.ofBits, Ideal.ieee, -EReal.coe_mul]; norm_num

theorem part_eq : part = ((64⁻¹ : ℝ) : EReal) := by
  simp [part, Ideal.ofBits, Ideal.ieee, -EReal.coe_mul]; norm_num

theorem tiny_pos : ∃ t : ℝ, 0 < t ∧ tiny = (t : EReal) := by
  refine ⟨_, ?_, by simp only [tiny, Ideal.ofBits, Ideal.ieee]; simp [-EReal.coe_mul]; rfl⟩
  norm_num

theorem div_size (s : EReal) : Ideal.div s size = s * part := by
  have h : ((64 : ℝ) : EReal) ≠ 0 := EReal.coe_ne_zero.mpr (by norm_num)
  rw [size_eq, part_eq, Ideal.div, if_neg h, EReal.coe_inv]

/-- One over a root mean square. -/
def inverse (s : EReal) : EReal := Ideal.rsqrt (s * part + tiny)

/-- It is a real number where the sum of squares isn't negative. -/
theorem inverse_real (s : EReal) (h : 0 ≤ s) : ∃ r : ℝ, inverse s = (r : EReal) := by
  obtain ⟨t, ht, e⟩ := tiny_pos
  unfold inverse
  rw [part_eq, e]
  induction s using EReal.rec with
  | bot => simp at h
  | top =>
    rw [EReal.top_mul_coe_of_pos (by norm_num), EReal.top_add_coe]
    exact ⟨0, rfl⟩
  | coe s =>
    have hs : 0 ≤ s := by exact_mod_cast h
    rw [← EReal.coe_mul, ← EReal.coe_add]
    have hp : 0 < s * 64⁻¹ + t := by positivity
    refine ⟨(Real.sqrt (s * 64⁻¹ + t))⁻¹, ?_⟩
    show (if _ then _ else if _ then _ else _) = _
    rw [if_neg (not_lt.mpr hp.le), if_neg hp.ne']

theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

/-- So a second part of it, what the first leaves, is nothing. -/
theorem inverse_parts (s : EReal) (h : 0 ≤ s) : inverse s + (inverse s - inverse s) = inverse s := by
  obtain ⟨r, e⟩ := inverse_real s h
  rw [e, ← EReal.coe_sub, ← EReal.coe_add, sub_self, add_zero]

/-- Number `d` of head `h`. -/
def at1024 (h : Fin 16) (d : Fin 64) : Fin 1024 := ⟨h.val * 64 + d.val, by omega⟩

/-- A head's number over the head's root mean square, times its gain. -/
def headed (y : Fin 64 → EReal) (g : EReal) (d : Fin 64) : EReal :=
  y d * Ideal.rsqrt (Ideal.div (∑ e, y e * y e) size + tiny) * g

/-- A sum over all numbers against a head's lane is the head's sum. -/
theorem sum_head (a : Fin 1024 → EReal) (h : Fin 16) (l : Fin 128) (hl : l.val = h.val) :
    ∑ c : Fin 1024, a c * (if c.val / 64 = l.val then 1 else 0) = ∑ e : Fin 64, a (at1024 h e) := by
  have hi : Function.Injective (at1024 h) := fun e e' he => Fin.ext (by have := congrArg Fin.val he; simp only [at1024] at this; omega)
  rw [← Finset.sum_image (s := Finset.univ) (g := at1024 h) (f := a) fun x _ y _ hxy => hi hxy]
  symm
  have e : ∀ c ∈ Finset.univ.image (at1024 h), a c = a c * (if c.val / 64 = l.val then 1 else 0) := by
    intro c hc
    obtain ⟨e, -, rfl⟩ := Finset.mem_image.mp hc
    rw [if_pos (by show (h.val * 64 + e.val) / 64 = l.val; omega), mul_one]
  rw [Finset.sum_congr rfl e]
  refine Finset.sum_subset (Finset.subset_univ _) fun c _ hc => ?_
  rw [if_neg, mul_zero]
  intro hh
  exact hc (Finset.mem_image.mpr ⟨⟨c.val % 64, by omega⟩, Finset.mem_univ _, Fin.ext (by show h.val * 64 + c.val % 64 = c.val; omega)⟩)

/-- A sum over the lanes against a number's head is the head's lane. -/
theorem sum_lane (b : Fin 128 → EReal) (h : Fin 16) :
    ∑ l : Fin 128, b l * (if l.val = h.val then 1 else 0) = b ⟨h.val, by omega⟩ := by
  rw [Finset.sum_eq_single (⟨h.val, by omega⟩ : Fin 128)]
  · rw [if_pos rfl, mul_one]
  · intro l _ hl
    rw [if_neg (fun e => hl (Fin.ext e)), mul_zero]
  · exact fun hn => absurd (Finset.mem_univ _) hn

/-- The logarithm of a number's sigmoid. -/
def logsig (x : EReal) : EReal := min x 0 - Ideal.log (1 + Ideal.exp (-max x (-x)))

/-- The logarithm in it is a real number. -/
theorem log_real (x : EReal) : ∃ r : ℝ, Ideal.log (1 + Ideal.exp (-max x (-x))) = (r : EReal) := by
  have e0 : Ideal.log (1 + Ideal.exp ⊥) = ((Real.log 1 : ℝ) : EReal) := by
    show Ideal.log (1 + 0) = _
    rw [add_zero, ← EReal.coe_one, Ideal.log_coe, if_neg (by norm_num)]
  induction x using EReal.rec with
  | bot => exact ⟨Real.log 1, by rw [EReal.neg_bot, max_eq_right bot_le, EReal.neg_top, e0]⟩
  | top => exact ⟨Real.log 1, by rw [EReal.neg_top, max_eq_left bot_le, EReal.neg_top, e0]⟩
  | coe x =>
    refine ⟨Real.log (1 + Real.exp (-max x (-x))), ?_⟩
    have e : (-max (x : EReal) (-(x : EReal))) = ((-max x (-x) : ℝ) : EReal) := by
      rw [EReal.coe_neg, EReal.coe_strictMono.monotone.map_max, EReal.coe_neg]
    have hp : 0 < 1 + Real.exp (-max x (-x)) := by positivity
    rw [e]
    show Ideal.log (1 + ((Real.exp (-max x (-x)) : ℝ) : EReal)) = _
    rw [← EReal.coe_one, ← EReal.coe_add, Ideal.log_coe, if_neg (not_le.mpr hp)]

/-- It is the negated sum of the other spelling. -/
theorem logsig_eq (x : EReal) : -(max (-x) 0 + Ideal.log (1 + Ideal.exp (-max (-x) (-(-x))))) = logsig x := by
  obtain ⟨r, e⟩ := log_real x
  have e' : Ideal.log (1 + Ideal.exp (-max (-x) (-(-x)))) = (r : EReal) := by rw [neg_neg, max_comm, e]
  unfold logsig
  rw [e, e', EReal.neg_add (Or.inr (EReal.coe_ne_top r)) (Or.inr (EReal.coe_ne_bot r))]
  have hm : -max (-x) 0 = min x 0 := by
    rcases le_total x 0 with h | h
    · rw [max_eq_left (EReal.neg_nonneg.mpr h), min_eq_left h, neg_neg]
    · rw [max_eq_right (by simpa using EReal.neg_le_neg_iff.mpr h), min_eq_right h, neg_zero]
  rw [hm]

/-- The rows' product with the weights, in column `f`. -/
def into (x w : Fin 1024 → EReal) (W : Fin 1024 → Fin 2064 → EReal) (f : Fin 2064) : EReal := ∑ k : Fin 1024, normed x w k * W k f

/-- A row's keys, values and log gates. The gates are in 128 lanes: the heads', then nothing. -/
def keys (x w : Fin 1024 → EReal) (W : Fin 1024 → Fin 2064 → EReal) (g : Fin 64 → EReal) (h : Fin 16) (d : Fin 64) : EReal :=
  headed (fun e => into x w W ⟨(at1024 h e).val, by omega⟩) (g d) d

def values (x w : Fin 1024 → EReal) (W : Fin 1024 → Fin 2064 → EReal) (h : Fin 16) (d : Fin 64) : EReal :=
  into x w W ⟨1024 + (at1024 h d).val, by omega⟩

def gates (x w : Fin 1024 → EReal) (W : Fin 1024 → Fin 2064 → EReal) (b : Fin 16 → EReal) (l : Fin 128) : EReal :=
  logsig (if h : l.val < 16 then into x w W ⟨2048 + l.val, by omega⟩ + b ⟨l.val, h⟩ else 0)

/-- What two numbers' comparison is as a number. -/
theorem mark (a b : ℕ) (ha : a < 2 ^ 32) (hb : b < 2 ^ 32) :
    ((((IntOp.cmpi .eq (BitVec.ofNat 32 a) (BitVec.ofNat 32 b)).toNat : ℝ) : EReal)) = if a = b then 1 else 0 := by
  by_cases h : a = b
  · subst h
    simp [IntOp.cmpi]
  · have hn : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    simp [IntOp.cmpi, hn, h]

end Cert.Shared
-- ==== Proof.KvStep.lean ====
/- One grid step of the shared keys and values: what it leaves in the blocks of the keys, the values and the log gates. -/
module

public import proofs.«01_k».proof.Proof.KvMath
public import proofs.«01_k».proof.Proof.Gen.KvIdeal.Frame

@[expose] public section

set_option maxRecDepth 16384

noncomputable section

namespace Cert.KvIdeal.Block

open Cert.KvIdeal Cert.KvIdeal.Gen Idealize.ShloMosaic Idealize.SL.Sem Cert.Half Cert.Shared

/-- The normed rows, -/
theorem pay2 (x0 : Vec Ideal S512x1024 .f32) (x1 : Vec Ideal S1x1024 .f32) (r : Fin 512) (k : Fin 1024) :
    k0_pay2 x0 x1 (ix2 r k) = normed (fun l => x0 (ix2 r l)) (fun l => x1 (ix2 0 l)) k := by
  unfold normed width tiny
  pointwise [k0_pay2]

/-- their product with the keys' weights, -/
theorem pay3 (x0 : Vec Ideal S512x1024 .f32) (x1 : Vec Ideal S1x1024 .f32) (x2 : Vec Ideal S1024x1024 .bf16) (r : Fin 512) (j : Fin 1024) :
    k0_pay3 x0 x1 x2 (ix2 r j) = ∑ k : Fin 1024, k0_pay2 x0 x1 (ix2 r k) * x2 (ix2 k j) := by
  pointwise [k0_pay3]

/-- the inverse of the root mean square in every lane, -/
theorem pay5 (x0 : Vec Ideal S512x1024 .f32) (x1 : Vec Ideal S1x1024 .f32) (x2 : Vec Ideal S1024x1024 .bf16) (x7 : Vec Ideal S1024x128 .bf16) (r : Fin 512) (l : Fin 128) :
    k0_pay5 x0 x1 x2 x7 (ix2 r l)
      = inverse (∑ j : Fin 1024, (k0_pay3 x0 x1 x2 (ix2 r j) * k0_pay3 x0 x1 x2 (ix2 r j)) * x7 (ix2 j l)) := by
  unfold inverse part tiny
  pointwise [k0_pay5]

/-- what its first part leaves, -/
theorem pay7 (x0 : Vec Ideal S512x1024 .f32) (x1 : Vec Ideal S1x1024 .f32) (x2 : Vec Ideal S1024x1024 .bf16) (x7 : Vec Ideal S1024x128 .bf16) (r : Fin 512) (l : Fin 128) :
    k0_pay7 x0 x1 x2 x7 (ix2 r l) = k0_pay5 x0 x1 x2 x7 (ix2 r l) - k0_pay5 x0 x1 x2 x7 (ix2 r l) := by
  pointwise [k0_pay7, k0_pay6]

/-- its first part spread over the heads, -/
theorem pay8 (x0 : Vec Ideal S512x1024 .f32) (x1 : Vec Ideal S1x1024 .f32) (x2 : Vec Ideal S1024x1024 .bf16) (x7 : Vec Ideal S1024x128 .bf16) (x8 : Vec Ideal S128x1024 .bf16) (r : Fin 512) (j : Fin 1024) :
    k0_pay8 x0 x1 x2 x7 x8 (ix2 r j) = ∑ l : Fin 128, k0_pay5 x0 x1 x2 x7 (ix2 r l) * x8 (ix2 l j) := by
  pointwise [k0_pay8, k0_pay6]

/-- and the keys. -/
theorem pay10 (y : FVec Ideal S512x1024 .f32) (g : FVec Ideal S1x1024 .f32) (b : FVec Ideal S512x128 .bf16) (a : FVec Ideal S512x1024 .f32) (x8 : Vec Ideal S128x1024 .bf16) (r : Fin 512) (h : Fin 16) (d : Fin 64) :
    k0_pay10 y g b a x8 (ix3 r h d)
      = y (ix2 r (at1024 h d)) * (a (ix2 r (at1024 h d)) + ∑ l : Fin 128, b (ix2 r l) * x8 (ix2 l (at1024 h d))) * g (ix2 0 (at1024 h d)) := by
  unfold at1024
  pointwise [k0_pay10, k0_pay9]

theorem pay4 (g : Vec Ideal S1x1024 .f32) : k0_pay4 g = g := by
  unfold k0_pay4; exact shapeCast_self ..

/-- The log gates, -/
theorem pay21 (n : FVec Ideal S512x1024 .bf16) (x4 : Vec Ideal S1024x128 .bf16) (x5 : Vec Ideal S1x128 .f32) (r : Fin 512) (l : Fin 128) :
    k0_pay21 n x4 x5 (ix2 r l) = logsig ((∑ k : Fin 1024, n (ix2 r k) * x4 (ix2 k l)) + x5 (ix2 0 l)) := by
  unfold logsig
  pointwise [k0_pay21]
  rw [zero_sub]
  rfl

/-- and the values. -/
theorem pay23 (n : FVec Ideal S512x1024 .bf16) (x3 : Vec Ideal S1024x1024 .bf16) (r : Fin 512) (h : Fin 16) (d : Fin 64) :
    k0_pay23 n x3 (ix3 r h d) = ∑ k : Fin 1024, x3 (ix2 (at1024 h d) k) * n (ix2 r k) := by
  unfold at1024
  pointwise [k0_pay23, k0_pay22]

theorem origin2 : (![0, 0] : Fin 2 → ℕ) = fun _ => 0 := by funext a; fin_cases a <;> rfl
theorem origin3 : (![0, 0, 0] : Fin 3 → ℕ) = fun _ => 0 := by funext a; fin_cases a <;> rfl

variable (x0 : Vec Ideal S512x1024 .f32) (x1 : Vec Ideal S1x1024 .f32) (x2 x3 : Vec Ideal S1024x1024 .bf16) (x4 : Vec Ideal S1024x128 .bf16)
  (x5 : Vec Ideal S1x128 .f32) (x6 : Vec Ideal S1x1024 .f32) (x7 : Vec Ideal S1024x128 .bf16) (x8 : Vec Ideal S128x1024 .bf16)

/-- The three blocks. -/
theorem out9 : out0_9 x0 x1 x2 x3 x4 x5 x6 x7 x8 = k0_pay10 (k0_pay3 x0 x1 x2) x6 (k0_pay7 x0 x1 x2 x7) (k0_pay8 x0 x1 x2 x7 x8) x8 := by
  unfold out0_9
  rw [View.canon_unit_zero origin3]
  unfold k0_pay25 k0_pay26 k0_pay27 k0_pay28
  rw [pay4]
  simp only [View.ld_unit_zero (S := S512x1024) origin2, View.ld_unit_zero (S := S1x1024) origin2, View.ld_unit_zero (S := S1024x1024) origin2,
    View.ld_unit_zero (S := S1024x128) origin2, View.ld_unit_zero (S := S128x1024) origin2]

theorem out10 : out0_10 x0 x1 x2 x3 x4 x5 x6 x7 x8 = k0_pay23 (k0_pay2 x0 x1) x3 := by
  unfold out0_10
  rw [View.canon_unit_zero origin3]
  unfold k0_pay24
  simp only [View.ld_unit_zero (S := S512x1024) origin2, View.ld_unit_zero (S := S1x1024) origin2, View.ld_unit_zero (S := S1024x1024) origin2]

theorem out11 : out0_11 x0 x1 x2 x3 x4 x5 x6 x7 x8 = k0_pay21 (k0_pay2 x0 x1) x4 x5 := by
  unfold out0_11
  rw [View.canon_unit_zero origin2]
  unfold k0_pay24
  simp only [View.ld_unit_zero (S := S512x1024) origin2, View.ld_unit_zero (S := S1x1024) origin2, View.ld_unit_zero (S := S1024x128) origin2, View.ld_unit_zero (S := S1x128) origin2]

end Cert.KvIdeal.Block
-- ==== Proof.KvArray.lean ====
/- The arrays that the shared keys and values call leaves: at every row the keys, the values and the log gates of the call's arguments. -/
module

public import proofs.«01_k».proof.Proof.KvStep
public import Idealize.ShloMosaic.Lib.StableHlo.ReadAt
public import Idealize.ShloMosaic.Lib.Pipeline.Covers

@[expose] public section

set_option maxRecDepth 16384

noncomputable section

namespace Cert.KvIdeal.Final

open Cert.KvIdeal Cert.KvIdeal.Gen Idealize.ShloMosaic Idealize.ShloMosaic.TcCoe Idealize.SL.Sem Cert.Half Cert.Shared Cert.KvIdeal.Block
open Idealize.ShloMosaic.Pipeline (Dat)

variable (m : (ℓ : Loc nD τ sig) → Buf (Elt Ideal) ℓ) (c : Dev nD)

/-- The rows, the gains, the weights, the gates' bias and the keys' gains, at the call. -/
def rows (r : Fin 32768) (k : Fin 1024) : EReal := m (c, Proc.tc.devRef main_arg0) (ix3 ⟨r.val / 4096, by omega⟩ ⟨r.val % 4096, by omega⟩ k)
def gains (k : Fin 1024) : EReal := m (c, Proc.tc.devRef main_arg1) (ix1 k)
def weights (k : Fin 1024) (f : Fin 2064) : EReal := m (c, Proc.tc.devRef main_arg2) (ix2 k f)
def bias (h : Fin 16) : EReal := m (c, Proc.tc.devRef main_arg3) (ix1 h)
def keyGains (d : Fin 64) : EReal := m (c, Proc.tc.devRef main_arg4) (ix1 d)

/-- Which blocks a grid point reads and writes. -/
theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![t.val, 0, 0] ∧ win0_10.index t = ![t.val, 0, 0] ∧ win0_11.index t = ![t.val, 0] ∧ t.val < 64 :=
  (by decide +kernel : ∀ t : Fin grid0.N, _)

theorem lt64 (t : Fin cfg0.N) : t.val < 64 := (idx t).2.2.2.2.2.2.2.2.2.2.2.2

/-- Row `r` of a grid point's block. -/
def row (t : Fin cfg0.N) (r : Fin 512) : Fin 32768 := ⟨t.val * 512 + r.val, by have := lt64 t; omega⟩

/-- The weights and the bias of a lane: a head's in the first sixteen, nothing in the others. -/
def laneWeight (k : Fin 1024) (l : Fin 128) : EReal := if h : l.val < 16 then weights m c k ⟨2048 + l.val, by omega⟩ else 0
def laneBias (l : Fin 128) : EReal := if h : l.val < 16 then bias m c ⟨l.val, h⟩ else 0

/-- A run leaves the three arrays as the grid's writes make them, and the arguments as they were. -/
theorem run (g : Dev nD → PrngReg) : θ_run defs (onTc (τ := τ) (main (F := Ideal))) ⟨m, fun _ => 0, g⟩ fun r => ∀ c : Dev nD,
    r.2.mem ((c.tc : Thread nD τ).loc main_v33_0) = (dats m 0 c).arrAt 9 cfg0.N
    ∧ r.2.mem ((c.tc : Thread nD τ).loc main_v33_1) = (dats m 0 c).arrAt 10 cfg0.N
    ∧ r.2.mem ((c.tc : Thread nD τ).loc main_v33_2) = (dats m 0 c).arrAt 11 cfg0.N
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  (θ_run defs _ _).mono (fun _ h c => ⟨(h.1 c).1 9, (h.1 c).1 10, (h.1 c).1 11, h.2 c⟩) (θ_run_and (run_main m g) (unchanged m g))

/-- The number of the integer that pads. -/
theorem zero_word : (FloatOps.sitofp .f32 (0#32) : Ideal .f32) = (0 : EReal) := by
  show ((((0#32 : BitVec 32).toInt : ℝ)) : EReal) = 0
  simp

/-- What the host's arrays hold. -/
theorem read5 (r : Fin 32768) (k : Fin 1024) : V m c main_v5 (ix2 r k) = rows m c r k := by
  unfold V; after_reads_at
  rfl

theorem read32 (k : Fin 1024) : V m c main_v32 (ix2 0 k) = gains m c k := by
  unfold V; after_reads_at
  rfl

theorem read7 (k j : Fin 1024) : V m c main_v7 (ix2 k j) = weights m c k ⟨j.val, by omega⟩ := by
  unfold V; after_reads_at
  rfl

theorem read10 (j k : Fin 1024) : V m c main_v10 (ix2 j k) = weights m c k ⟨1024 + j.val, by omega⟩ := by
  unfold V; after_reads_at
  rfl

theorem read13 (k : Fin 1024) (l : Fin 128) : V m c main_v13 (ix2 k l) = laneWeight m c k l := by
  unfold V; after_reads_at
  rw [zero_word]
  rfl

theorem read15 (l : Fin 128) : V m c main_v15 (ix2 0 l) = laneBias m c l := by
  unfold V; after_reads_at
  rw [zero_word]
  rfl

theorem read19 (j : Fin 1024) : V m c main_v19 (ix2 0 j) = keyGains m c ⟨j.val % 64, by omega⟩ := by
  unfold V; after_reads_at
  rfl

theorem read25 (j : Fin 1024) (l : Fin 128) : V m c main_v25 (ix2 j l) = (if j.val / 64 = l.val then 1 else 0 : EReal) := by
  unfold V; after_reads_at
  exact mark _ _ (by omega) (by omega)

theorem read31 (l : Fin 128) (j : Fin 1024) : V m c main_v31 (ix2 l j) = (if l.val = j.val / 64 then 1 else 0 : EReal) := by
  unfold V; after_reads_at
  exact mark _ _ (by omega) (by omega)

/-- The blocks of a grid point. -/
theorem blk0 (t : Fin cfg0.N) (r : Fin 512) (k : Fin 1024) : iblk m c 0 t (ix2 r k) = rows m c (row t r) k := by
  rw [← read5]; blk_ext [iblk, row, idx t]

theorem blk1 (t : Fin cfg0.N) (k : Fin 1024) : iblk m c 1 t (ix2 0 k) = gains m c k := by
  rw [← read32]; blk_ext [iblk, idx t]

theorem blk2 (t : Fin cfg0.N) (k j : Fin 1024) : iblk m c 2 t (ix2 k j) = weights m c k ⟨j.val, by omega⟩ := by
  rw [← read7]; blk_ext [iblk, idx t]

theorem blk3 (t : Fin cfg0.N) (j k : Fin 1024) : iblk m c 3 t (ix2 j k) = weights m c k ⟨1024 + j.val, by omega⟩ := by
  rw [← read10]; blk_ext [iblk, idx t]

theorem blk4 (t : Fin cfg0.N) (k : Fin 1024) (l : Fin 128) : iblk m c 4 t (ix2 k l) = laneWeight m c k l := by
  rw [← read13]; blk_ext [iblk, idx t]

theorem blk5 (t : Fin cfg0.N) (l : Fin 128) : iblk m c 5 t (ix2 0 l) = laneBias m c l := by
  rw [← read15]; blk_ext [iblk, idx t]

theorem blk6 (t : Fin cfg0.N) (j : Fin 1024) : iblk m c 6 t (ix2 0 j) = keyGains m c ⟨j.val % 64, by omega⟩ := by
  rw [← read19]; blk_ext [iblk, idx t]

theorem blk7 (t : Fin cfg0.N) (j : Fin 1024) (l : Fin 128) : iblk m c 7 t (ix2 j l) = (if j.val / 64 = l.val then 1 else 0 : EReal) := by
  rw [← read25 m c]; blk_ext [iblk, idx t]

theorem blk8 (t : Fin cfg0.N) (l : Fin 128) (j : Fin 1024) : iblk m c 8 t (ix2 l j) = (if l.val = j.val / 64 then 1 else 0 : EReal) := by
  rw [← read31 m c]; blk_ext [iblk, idx t]

/-- A row's normed values. -/
theorem norm_at (t : Fin cfg0.N) (r : Fin 512) (k : Fin 1024) :
    k0_pay2 (iblk m c 0 t) (iblk m c 1 t) (ix2 r k) = normed (rows m c (row t r)) (gains m c) k := by
  rw [pay2]
  simp only [blk0, blk1]

/-- The keys' product. -/
theorem product_at (t : Fin cfg0.N) (r : Fin 512) (j : Fin 1024) :
    k0_pay3 (iblk m c 0 t) (iblk m c 1 t) (iblk m c 2 t) (ix2 r j) = into (rows m c (row t r)) (gains m c) (weights m c) ⟨j.val, by omega⟩ := by
  rw [pay3]
  simp only [norm_at, blk2]
  rfl

/-- The inverse in a head's lane. -/
theorem inverse_at (t : Fin cfg0.N) (r : Fin 512) (h : Fin 16) (l : Fin 128) (hl : l.val = h.val) :
    k0_pay5 (iblk m c 0 t) (iblk m c 1 t) (iblk m c 2 t) (iblk m c 7 t) (ix2 r l)
      = inverse (∑ e : Fin 64, into (rows m c (row t r)) (gains m c) (weights m c) ⟨(at1024 h e).val, by omega⟩
          * into (rows m c (row t r)) (gains m c) (weights m c) ⟨(at1024 h e).val, by omega⟩) := by
  rw [pay5]
  simp only [product_at, blk7]
  rw [sum_head _ h l hl]

/-- The keys, -/
theorem keys_at (t : Fin cfg0.N) (r : Fin 512) (h : Fin 16) (d : Fin 64) :
    out0_9 (iblk m c 0 t) (iblk m c 1 t) (iblk m c 2 t) (iblk m c 3 t) (iblk m c 4 t) (iblk m c 5 t) (iblk m c 6 t) (iblk m c 7 t) (iblk m c 8 t) (ix3 r h d)
      = keys (rows m c (row t r)) (gains m c) (weights m c) (keyGains m c) h d := by
  have eh : (at1024 h d).val / 64 = h.val := by show (h.val * 64 + d.val) / 64 = _; omega
  have ed : (⟨(at1024 h d).val % 64, by omega⟩ : Fin 64) = d := Fin.ext (by show (h.val * 64 + d.val) % 64 = _; omega)
  rw [out9, pay10, pay8]
  simp only [pay7, blk8, blk6, eh, ed]
  rw [sum_lane _ h, sum_lane _ h, inverse_at m c t r h _ rfl, inverse_parts _ (Finset.sum_nonneg fun e _ => square_nonneg _), product_at]
  unfold keys headed
  rw [div_size]
  rfl

/-- the values, -/
theorem values_at (t : Fin cfg0.N) (r : Fin 512) (h : Fin 16) (d : Fin 64) :
    out0_10 (iblk m c 0 t) (iblk m c 1 t) (iblk m c 2 t) (iblk m c 3 t) (iblk m c 4 t) (iblk m c 5 t) (iblk m c 6 t) (iblk m c 7 t) (iblk m c 8 t) (ix3 r h d)
      = values (rows m c (row t r)) (gains m c) (weights m c) h d := by
  rw [out10, pay23]
  simp only [norm_at, blk3]
  exact Finset.sum_congr rfl fun k _ => mul_comm _ _

/-- and the log gates of a row. -/
theorem gates_at (t : Fin cfg0.N) (r : Fin 512) (l : Fin 128) :
    out0_11 (iblk m c 0 t) (iblk m c 1 t) (iblk m c 2 t) (iblk m c 3 t) (iblk m c 4 t) (iblk m c 5 t) (iblk m c 6 t) (iblk m c 7 t) (iblk m c 8 t) (ix2 r l)
      = gates (rows m c (row t r)) (gains m c) (weights m c) (bias m c) l := by
  rw [out11, pay21]
  simp only [norm_at, blk4, blk5]
  unfold gates laneWeight laneBias
  by_cases h : l.val < 16
  · simp only [dif_pos h]
    rfl
  · simp only [dif_neg h, mul_zero, Finset.sum_const_zero, add_zero]

/-- The three arrays. -/
def keyArray : FVec Ideal S32768x16x64 .f32 := fun i => keys (rows m c (i 0)) (gains m c) (weights m c) (keyGains m c) (i 1) (i 2)
def valueArray : FVec Ideal S32768x16x64 .f32 := fun i => values (rows m c (i 0)) (gains m c) (weights m c) (i 1) (i 2)
def gateArray : FVec Ideal S32768x128 .f32 := fun i => gates (rows m c (i 0)) (gains m c) (weights m c) (bias m c) (i 1)

theorem final9 : (dats m 0 c).arrAt 9 cfg0.N = keyArray m c := by
  refine (dats m 0 c).arrAt_eq_of_covers 9 _ (by decide +kernel) fun t _ y => ?_
  blk_simp
  rw [after0_9]
  idx_vars y
  have he : keyArray m c (((View.whole main_v33_0).slice (win0_9.rect t)).emb (ix3 y0 y1 y2)) = keyArray m c (ix3 (row t y0) y1 y2) := by
    blk_ext [row, idx t]
  exact (keys_at m c t y0 y1 y2).trans he.symm

theorem final10 : (dats m 0 c).arrAt 10 cfg0.N = valueArray m c := by
  refine (dats m 0 c).arrAt_eq_of_covers 10 _ (by decide +kernel) fun t _ y => ?_
  blk_simp
  rw [after0_10]
  idx_vars y
  have he : valueArray m c (((View.whole main_v33_1).slice (win0_10.rect t)).emb (ix3 y0 y1 y2)) = valueArray m c (ix3 (row t y0) y1 y2) := by
    blk_ext [row, idx t]
  exact (values_at m c t y0 y1 y2).trans he.symm

theorem final11 : (dats m 0 c).arrAt 11 cfg0.N = gateArray m c := by
  refine (dats m 0 c).arrAt_eq_of_covers 11 _ (by decide +kernel) fun t _ y => ?_
  blk_simp
  rw [after0_11]
  idx_vars y
  have he : gateArray m c (((View.whole main_v33_2).slice (win0_11.rect t)).emb (ix2 y0 y1)) = gateArray m c (ix2 (row t y0) y1) := by
    blk_ext [row, idx t]
  exact (gates_at m c t y0 y1).trans he.symm

end Cert.KvIdeal.Final
-- ==== Proof.KvRef.lean ====
/- The value of the reference of the shared keys and values: at every row its keys, values and log gates. -/
module

public import proofs.«01_k».proof.Proof.KvMath
public import proofs.«01_k».proof.Proof.Gen.KvReferenceIdeal.Run

@[expose] public section

set_option maxRecDepth 16384

noncomputable section

namespace Cert.KvReferenceIdeal.Final

open Cert.KvReferenceIdeal Cert.KvReferenceIdeal.Gen Idealize.ShloMosaic Idealize.ShloMosaic.TcCoe Idealize.SL.Sem Cert.Half Cert.Shared

/-- The rows of both leading axes. -/
def flat (x : FVec Ideal S8x4096x1024 .f32) : FVec Ideal S32768x1024 .f32 := shapeCast _ x shapeCasts_S8x4096x1024_S32768x1024

/-- The normed rows. -/
def norms (h : FVec Ideal S32768x1024 .f32) (w : FVec Ideal S1024 .f32) : FVec Ideal S32768x1024 .f32 :=
  mulf (mulf h (broadcastInDim S32768x1024 ![0, 1] bcast_S32768x1_S32768x1024_0_1 (Host.rsqrt (addf (Host.divf
        (broadcastInDim S32768x1 ![0] bcast_S32768_S32768x1_0 (Host.reduceAdd (mulf h h) (constant S_ .f32 0x00000000#32) reducesTo_S32768x1024_S32768_d1 h_S_))
        (broadcastInDim S32768x1 ![] bcast_S_S32768x1 (constant S_ .f32 0x44800000#32)))
      (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 w))

/-- The product. -/
def wide (n : FVec Ideal S32768x1024 .f32) (W : FVec Ideal S1024x2064 .f32) : FVec Ideal S32768x2064 .f32 :=
  Host.dotGeneral dot_S32768x1024_S1024x2064_S32768x2064_1_0_0_1_n_n none n W

/-- Its first columns by head, -/
def raw (p : FVec Ideal S32768x2064 .f32) : FVec Ideal S32768x16x64 .f32 :=
  shapeCast _ (extractStridedSlice S32768x1024 ![0, 0] p slices_S32768x2064_S32768x1024_0_0) shapeCasts_S32768x1024_S32768x16x64

/-- each head over its root mean square, with the keys' gains, -/
def headNorms (y : FVec Ideal S32768x16x64 .f32) (g : FVec Ideal S64 .f32) : FVec Ideal S32768x16x64 .f32 :=
  mulf (mulf y (broadcastInDim S32768x16x64 ![0, 1, 2] bcast_S32768x16x1_S32768x16x64_0_1_2 (Host.rsqrt (addf (Host.divf
        (broadcastInDim S32768x16x1 ![0, 1] bcast_S32768x16_S32768x16x1_0_1 (Host.reduceAdd (mulf y y) (constant S_ .f32 0x00000000#32) reducesTo_S32768x16x64_S32768x16_d2 h_S_))
        (broadcastInDim S32768x16x1 ![] bcast_S_S32768x16x1 (constant S_ .f32 0x42800000#32)))
      (broadcastInDim S32768x16x1 ![] bcast_S_S32768x16x1 (constant S_ .f32 0x358637BD#32))))))
    (broadcastInDim S32768x16x64 ![0, 1, 2] bcast_S1x1x64_S32768x16x64_0_1_2 (broadcastInDim S1x1x64 ![2] bcast_S64_S1x1x64_2 g))

/-- its next columns by head, -/
def plain (p : FVec Ideal S32768x2064 .f32) : FVec Ideal S32768x16x64 .f32 :=
  shapeCast _ (extractStridedSlice S32768x1024 ![0, 1024] p slices_S32768x2064_S32768x1024_0_1024) shapeCasts_S32768x1024_S32768x16x64

/-- its last columns with the bias, padded to the lanes, -/
def logits (p : FVec Ideal S32768x2064 .f32) (b : FVec Ideal S16 .f32) : FVec Ideal S32768x128 .f32 :=
  pad S32768x128 ![0, 0] ![0, 112] ![0, 0] (addf (extractStridedSlice S32768x16 ![0, 2048] p slices_S32768x2064_S32768x16_0_2048)
      (broadcastInDim S32768x16 ![0, 1] bcast_S1x16_S32768x16_0_1 (broadcastInDim S1x16 ![1] bcast_S16_S1x16_1 b)))
    (constant S_ .f32 0x00000000#32) pads_S32768x16_S32768x128_000_01120 h_S_

/-- and the logarithm of their sigmoid. -/
def nothing : FVec Ideal S32768x128 .f32 := broadcastInDim S32768x128 ![] bcast_S_S32768x128 (constant S_ .f32 0x00000000#32)
def logSig (y : FVec Ideal S32768x128 .f32) : FVec Ideal S32768x128 .f32 :=
  Host.negf (select (cmpf .une (subf (Host.negf y) nothing) (subf (Host.negf y) nothing)) (addf (Host.negf y) nothing)
    (addf (maximumf (Host.negf y) nothing) (Host.log1p (Host.exp (Host.negf (Host.absf (subf (Host.negf y) nothing)))))))

theorem flat_at (x : FVec Ideal S8x4096x1024 .f32) (r : Fin 32768) (k : Fin 1024) :
    flat x (ix2 r k) = x (ix3 ⟨r.val / 4096, by omega⟩ ⟨r.val % 4096, by omega⟩ k) := by
  pointwise [flat]

theorem norms_at (h : FVec Ideal S32768x1024 .f32) (w : FVec Ideal S1024 .f32) (r : Fin 32768) (k : Fin 1024) :
    norms h w (ix2 r k) = normed (fun l => h (ix2 r l)) (fun l => w (ix1 l)) k := by
  unfold normed width tiny
  pointwise [norms]

theorem wide_at (n : FVec Ideal S32768x1024 .f32) (W : FVec Ideal S1024x2064 .f32) (r : Fin 32768) (f : Fin 2064) :
    wide n W (ix2 r f) = ∑ k : Fin 1024, n (ix2 r k) * W (ix2 k f) := by
  pointwise [wide]

theorem raw_at (p : FVec Ideal S32768x2064 .f32) (r : Fin 32768) (h : Fin 16) (d : Fin 64) :
    raw p (ix3 r h d) = p (ix2 r ⟨(at1024 h d).val, by omega⟩) := by
  unfold at1024
  pointwise [raw]

theorem headNorms_at (y : FVec Ideal S32768x16x64 .f32) (g : FVec Ideal S64 .f32) (r : Fin 32768) (h : Fin 16) (d : Fin 64) :
    headNorms y g (ix3 r h d) = headed (fun e => y (ix3 r h e)) (g (ix1 d)) d := by
  unfold headed size tiny
  pointwise [headNorms]

theorem plain_at (p : FVec Ideal S32768x2064 .f32) (r : Fin 32768) (h : Fin 16) (d : Fin 64) :
    plain p (ix3 r h d) = p (ix2 r ⟨1024 + (at1024 h d).val, by omega⟩) := by
  unfold at1024
  pointwise [plain]

theorem logits_at (p : FVec Ideal S32768x2064 .f32) (b : FVec Ideal S16 .f32) (r : Fin 32768) (l : Fin 128) :
    logits p b (ix2 r l) = if h : l.val < 16 then p (ix2 r ⟨2048 + l.val, by omega⟩) + b (ix1 ⟨l.val, h⟩) else 0 := by
  pointwise [logits]

theorem logSig_at (y : FVec Ideal S32768x128 .f32) (r : Fin 32768) (l : Fin 128) :
    logSig y (ix2 r l) = logsig (y (ix2 r l)) := by
  rw [← logsig_eq]
  pointwise [logSig, nothing]
  rw [if_neg (not_not.mpr rfl)]
  rfl

/-- The product of the normed rows. -/
theorem into_at (x : FVec Ideal S8x4096x1024 .f32) (w : FVec Ideal S1024 .f32) (W : FVec Ideal S1024x2064 .f32) (r : Fin 32768) (f : Fin 2064) :
    wide (norms (flat x) w) W (ix2 r f)
      = into (fun k => x (ix3 ⟨r.val / 4096, by omega⟩ ⟨r.val % 4096, by omega⟩ k)) (fun k => w (ix1 k)) (fun k f => W (ix2 k f)) f := by
  rw [wide_at]
  simp only [norms_at, flat_at]
  rfl

variable (x : FVec Ideal S8x4096x1024 .f32) (w : FVec Ideal S1024 .f32) (W : FVec Ideal S1024x2064 .f32) (b : FVec Ideal S16 .f32) (g : FVec Ideal S64 .f32)

/-- The reference's keys, -/
theorem keys_value (r : Fin 32768) (h : Fin 16) (d : Fin 64) :
    headNorms (raw (wide (norms (flat x) w) W)) g (ix3 r h d)
      = keys (fun k => x (ix3 ⟨r.val / 4096, by omega⟩ ⟨r.val % 4096, by omega⟩ k)) (fun k => w (ix1 k)) (fun k f => W (ix2 k f)) (fun d => g (ix1 d)) h d := by
  rw [headNorms_at]
  simp only [raw_at, into_at]
  rfl

/-- values -/
theorem values_value (r : Fin 32768) (h : Fin 16) (d : Fin 64) :
    plain (wide (norms (flat x) w) W) (ix3 r h d)
      = values (fun k => x (ix3 ⟨r.val / 4096, by omega⟩ ⟨r.val % 4096, by omega⟩ k)) (fun k => w (ix1 k)) (fun k f => W (ix2 k f)) h d := by
  rw [plain_at, into_at]
  rfl

/-- and log gates. -/
theorem gates_value (r : Fin 32768) (l : Fin 128) :
    logSig (logits (wide (norms (flat x) w) W) b) (ix2 r l)
      = gates (fun k => x (ix3 ⟨r.val / 4096, by omega⟩ ⟨r.val % 4096, by omega⟩ k)) (fun k => w (ix1 k)) (fun k f => W (ix2 k f)) (fun h => b (ix1 h)) l := by
  rw [logSig_at, logits_at]
  simp only [into_at]
  rfl

variable (m : (ℓ : Loc nD τ sig) → Buf (Elt Ideal) ℓ) (c : Dev nD)

/-- The reference's third result, as a function of its arguments. -/
theorem res_eq : Value.res_main_v37 m c = logSig (logits (wide (norms (flat (m ((c.tc : Thread nD τ).loc main_arg0))) (m ((c.tc : Thread nD τ).loc main_arg1)))
    (m ((c.tc : Thread nD τ).loc main_arg2))) (m ((c.tc : Thread nD τ).loc main_arg3))) := by
  unfold Value.res_main_v37 logSig logits wide norms flat nothing
  rfl

end Cert.KvReferenceIdeal.Final
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_finite_scores
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnReferenceIdeal
public import proofs.«01_k».proof.Proof.Gen.FfnReferenceIdeal.Run
public import proofs.«01_k».proof.Proof.Gen.Kv
public import proofs.«01_k».proof.Proof.Gen.Kv.Skeleton
public import proofs.«01_k».proof.Proof.Gen.Kv.Launch
public import proofs.«01_k».proof.Proof.Gen.Kv.Points
public import proofs.«01_k».proof.Proof.Gen.Kv.Frame
public import proofs.«01_k».proof.Proof.Gen.KvIdeal
public import proofs.«01_k».proof.Proof.Gen.KvIdeal.Skeleton
public import proofs.«01_k».proof.Proof.Gen.KvIdeal.Launch
public import proofs.«01_k».proof.Proof.Gen.KvIdeal.Points
public import proofs.«01_k».proof.Proof.Gen.KvIdeal.Frame
public import proofs.«01_k».proof.Proof.Gen.KvReferenceIdeal
public import proofs.«01_k».proof.Proof.Gen.KvReferenceIdeal.Run
public import proofs.«01_k».proof.Proof.Array
public import proofs.«01_k».proof.Proof.Ref
public import proofs.«01_k».proof.Proof.Finite
public import proofs.«01_k».proof.Proof.FfnArray
public import proofs.«01_k».proof.Proof.FfnRef
public import proofs.«01_k».proof.Proof.KvArray
public import proofs.«01_k».proof.Proof.KvRef
public import Idealize.ShloMosaic.Lib.Claim
public import Idealize.ShloMosaic.Adequacy
public import Idealize.ShloMosaic.Init

@[expose] public section

noncomputable section

namespace Cert.Proof

open Idealize.ShloMosaic Idealize.SL.Sem Cert.Kernel

/-- The two runs end with one result, on finite queries, keys and cumulative gates. -/
theorem algebraic [hKernelIdeal : Cert.KernelIdeal.Facts] [hReferenceIdeal : Cert.ReferenceIdeal.Facts] [hPre : Cert.Pre_finite_scores.Facts] :
    Cert.algebraic_KernelIdeal_ReferenceIdeal_pre_finite_scores := by
  pair_intro
  · run_from Cert.KernelIdeal.Value.run_blocks m g
  · run_from Cert.ReferenceIdeal.Value.run m' g'
    obtain ⟨h0, h1, h2, h3, h4⟩ := hagree c
    obtain ⟨hq, hk, hc⟩ := Cert.Pre_finite_scores.Finite.parts _ _ _ _ _ (hpre c)
    rw [Cert.KernelIdeal.Final.final m c (fun b t h d => hq (ix4 b t h d)) (fun b t h d => hk (ix4 b t h d)) (fun b t h => hc (ix3 b t h)),
      Cert.ReferenceIdeal.Final.res_eq, h0, h1, h2, h3, h4]
    funext j
    refine (congrArg _ (eq_ix3 j)).trans ?_
    exact Cert.ReferenceIdeal.Final.mixed_eq _ _ _ _ _ hq hk hc (j 0) (j 1) (j 2)

theorem reference [hReferenceIdeal : Cert.ReferenceIdeal.Facts] : Cert.quiescent_ReferenceIdeal := by
  intro m g _
  hlo_run
  · exact fun _ => ⟨trivial, trivial, trivial, trivial, trivial⟩
  · exact Idealize.ShloMosaic.sem_eq_zero_of_no_sems (sig := Cert.ReferenceIdeal.sig) (by decide) _

/-- The two runs of the feed-forward half end with one result. -/
theorem algebraic_ffn [hFfnIdeal : Cert.FfnIdeal.Facts] [hFfnReferenceIdeal : Cert.FfnReferenceIdeal.Facts] : Cert.algebraic_FfnIdeal_FfnReferenceIdeal := by
  pair_intro
  · run_from Cert.FfnIdeal.Value.run_blocks m g
  · run_from Cert.FfnReferenceIdeal.Value.run m' g'
    rw [Cert.FfnIdeal.Final.final m c]
    funext j
    refine (congrArg _ (eq_ix2 j)).trans ?_
    exact Cert.FfnReferenceIdeal.Final.value _ _ _ _ (j 0) (j 1)

theorem reference_ffn [hFfnReferenceIdeal : Cert.FfnReferenceIdeal.Facts] : Cert.quiescent_FfnReferenceIdeal := by
  intro m g _
  hlo_run
  · exact fun _ => ⟨trivial, trivial, trivial, trivial⟩
  · exact Idealize.ShloMosaic.sem_eq_zero_of_no_sems (sig := Cert.FfnReferenceIdeal.sig) (by decide) _

/-- So do the two runs of the shared keys and values, with three results. -/
theorem algebraic_kv [hKvIdeal : Cert.KvIdeal.Facts] [hKvReferenceIdeal : Cert.KvReferenceIdeal.Facts] : Cert.algebraic_KvIdeal_KvReferenceIdeal := by
  pair_intro
  · run_from Cert.KvIdeal.Final.run m g
  · run_from Cert.KvReferenceIdeal.Value.run m' g'
    · rw [Cert.KvIdeal.Final.final9 m c]
      funext j
      refine (congrArg _ (eq_ix3 j)).trans ?_
      exact Cert.KvReferenceIdeal.Final.keys_value _ _ _ _ (j 0) (j 1) (j 2)
    · rw [Cert.KvIdeal.Final.final10 m c]
      funext j
      refine (congrArg _ (eq_ix3 j)).trans ?_
      exact Cert.KvReferenceIdeal.Final.values_value _ _ _ (j 0) (j 1) (j 2)
    · obtain ⟨h0, h1, h2, h3, -⟩ := hagree c
      rw [Cert.KvIdeal.Final.final11 m c, Cert.KvReferenceIdeal.Final.res_eq, h0, h1, h2, h3]
      funext j
      refine (congrArg _ (eq_ix2 j)).trans ?_
      exact Cert.KvReferenceIdeal.Final.gates_value _ _ _ _ (j 0) (j 1)

theorem reference_kv [hKvReferenceIdeal : Cert.KvReferenceIdeal.Facts] : Cert.quiescent_KvReferenceIdeal := by
  intro m g _
  hlo_run
  · exact fun _ => ⟨trivial, trivial, trivial, trivial, trivial⟩
  · exact Idealize.ShloMosaic.sem_eq_zero_of_no_sems (sig := Cert.KvReferenceIdeal.sig) (by decide) _

theorem claim : Cert.Claim := ⟨Cert.Kernel.Gen.facts, Cert.KernelIdeal.Gen.facts, Cert.ReferenceIdeal.Gen.facts,
  Cert.Ffn.Gen.facts, Cert.FfnIdeal.Gen.facts, Cert.FfnReferenceIdeal.Gen.facts,
  Cert.Kv.Gen.facts, Cert.KvIdeal.Gen.facts, Cert.KvReferenceIdeal.Gen.facts, Cert.Pre_finite_scores.Gen.facts,
  fun m g _ => Cert.Kernel.Gen.frame m g, fun m g _ => Cert.KernelIdeal.Gen.frame m g, fun m g _ => Cert.KernelIdeal.Gen.frame m g,
  reference, fun m g _ => reference m g trivial,
  fun m g _ => Cert.Ffn.Gen.frame m g, fun m g _ => Cert.FfnIdeal.Gen.frame m g, reference_ffn,
  fun m g _ => Cert.Kv.Gen.frame m g, fun m g _ => Cert.KvIdeal.Gen.frame m g, reference_kv,
  IdealRules.named_const.statement Cert.KernelIdeal.κ "mask" .f32 0xF149F2CA#32 ⊥ rfl, algebraic, trivial, algebraic_ffn, trivial, algebraic_kv⟩

end Cert.Proof

end
